-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_identity_affine [hPre_identity_affine : Cert.Pre_identity_affine.Facts] (m : (ℓ : Loc Cert.KernelIdeal.nD Cert.KernelIdeal.τ Cert.KernelIdeal.sig) → Buf (Elt Ideal) ℓ) : Prop :=
  ∀ c : Dev Cert.KernelIdeal.nD,
    (Cert.Pre_identity_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_identity_affine [hPre_identity_affine : Cert.Pre_identity_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_identity_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_identity_affine [hKernelIdeal : Cert.KernelIdeal.Facts] [hPre_identity_affine : Cert.Pre_identity_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_identity_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_identity_affine [hReferenceIdeal : Cert.ReferenceIdeal.Facts] [hPre_identity_affine : Cert.Pre_identity_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_identity_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_identity_affine [hKernelIdeal : Cert.KernelIdeal.Facts] [hReferenceIdeal : Cert.ReferenceIdeal.Facts] [hPre_identity_affine : Cert.Pre_identity_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_identity_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_identity_affine : Cert.Pre_identity_affine.Facts),
    quiescent_Kernel (hKernel := hKernel)
    ∧ quiescent_KernelIdeal (hKernelIdeal := hKernelIdeal)
    ∧ quiescent_KernelIdeal_pre_identity_affine (hKernelIdeal := hKernelIdeal) (hPre_identity_affine := hPre_identity_affine)
    ∧ quiescent_ReferenceIdeal (hReferenceIdeal := hReferenceIdeal)
    ∧ quiescent_ReferenceIdeal_pre_identity_affine (hReferenceIdeal := hReferenceIdeal) (hPre_identity_affine := hPre_identity_affine)
    ∧ preserves_Kernel_KernelIdeal
    ∧ algebraic_KernelIdeal_ReferenceIdeal_pre_identity_affine (hKernelIdeal := hKernelIdeal) (hReferenceIdeal := hReferenceIdeal) (hPre_identity_affine := hPre_identity_affine)
-- ==== Pre_identity_affine.lean ====
abbrev S4x2048x4096 : Shape := ⟨3, ![4, 2048, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4x2048x4096 .f32) (main_arg1 : FVec F S4096 .f32) (main_arg2 : FVec F S4096 .f32) : IVec S_ 1 :=
  let main_cst : FVec F S_ .f32 := constant S_ .f32 0x3F800000#32
  let main_v0 : FVec F S4096 .f32 := broadcastInDim S4096 ![] bcast_S_S4096 main_cst
  let main_v1 : IVec S4096 1 := cmpf .oeq main_arg1 main_v0
  let main_c : IVec S_ 1 := constantI S_ 1 1#1
  let main_v2 : IVec S_ 1 := (fun x v => Host.reduce IntOp.andi x v reducesTo_S4096_S_d0 h_S_) main_v1 main_c
  let main_cst_0 : FVec F S_ .f32 := constant S_ .f32 0x00000000#32
  let main_v3 : FVec F S4096 .f32 := broadcastInDim S4096 ![] bcast_S_S4096 main_cst_0
  let main_v4 : IVec S4096 1 := cmpf .oeq main_arg2 main_v3
  let main_c_1 : IVec S_ 1 := constantI S_ 1 1#1
  let main_v5 : IVec S_ 1 := (fun x v => Host.reduce IntOp.andi x v reducesTo_S4096_S_d0 h_S_) main_v4 main_c_1
  let main_v6 : IVec S_ 1 := andi main_v2 main_v5
  main_v6
-- ==== Kernel.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S1x128 : Shape := ⟨2, ![1, 128]⟩
abbrev S8192x4 : Shape := ⟨2, ![8192, 4]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1x128 : Shape := ⟨3, ![1, 1, 128]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S1x4096, .f32⟩
  | .local _ .vmem, ⟨1, _⟩ => ⟨S1x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S1x128, .f32⟩
  | .local _ .vmem, ⟨7, _⟩ => ⟨S1x128, .f32⟩
  | .local _ .vmem, ⟨8, _⟩ => ⟨S8192x4, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![3, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c512_i32 : BitVec 32 := 512#32
  let v11 : BitVec 32 := Scalar.muli arg1 c512_i32
  let v16 : Index := Scalar.indexCast v11
  let c0_5 : Index := 0#32
  ![v16.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v20 : Index := Scalar.indexCast v11
  let c1 : Index := 1#32
  ![v20.toNat, 1]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c512_i32 : BitVec 32 := 512#32
  let v48 : BitVec 32 := Scalar.muli arg1 c512_i32
  let v49 : Index := Scalar.indexCast v48
  let c2 : Index := 2#32
  ![v49.toNat, 2]
def k0_off4 (i : grid0.Coords) : Fin 2 → Nat :=
  let arg1 : BitVec 32 := BitVec.ofNat 32 (i 1).val
  let c512_i32 : BitVec 32 := 512#32
  let v48 : BitVec 32 := Scalar.muli arg1 c512_i32
  let v53 : Index := Scalar.indexCast v48
  let c3 : Index := 3#32
  ![v53.toNat, 3]
def k0_off5 (i : grid0.Coords) : Fin 2 → Nat :=
  let arg1 : BitVec 32 := BitVec.ofNat 32 (i 1).val
  let c512_i32 : BitVec 32 := 512#32
  let v48 : BitVec 32 := Scalar.muli arg1 c512_i32
  let v57 : Index := Scalar.indexCast v48
  let c0_16 : Index := 0#32
  ![v57.toNat, 0]
def k0_off6 (i : grid0.Coords) : Fin 2 → Nat :=
  let arg1 : BitVec 32 := BitVec.ofNat 32 (i 1).val
  let c512_i32 : BitVec 32 := 512#32
  let v48 : BitVec 32 := Scalar.muli arg1 c512_i32
  let v60 : Index := Scalar.indexCast v48
  let c1 : Index := 1#32
  ![v60.toNat, 1]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_off7 (i : grid0.Coords) : Fin 2 → Nat :=
  let arg1 : BitVec 32 := BitVec.ofNat 32 (i 1).val
  let c512_i32 : BitVec 32 := 512#32
  let v16 : BitVec 32 := Scalar.muli arg1 c512_i32
  let v19 : Index := Scalar.indexCast v16
  let c2 : Index := 2#32
  ![v19.toNat, 2]
def k0_off8 (i : grid0.Coords) : Fin 2 → Nat :=
  let arg1 : BitVec 32 := BitVec.ofNat 32 (i 1).val
  let c512_i32 : BitVec 32 := 512#32
  let v16 : BitVec 32 := Scalar.muli arg1 c512_i32
  let v23 : Index := Scalar.indexCast v16
  let c3 : Index := 3#32
  ![v23.toNat, 3]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x4096 : Shape := ⟨3, ![4, 2048, 4096]⟩
abbrev S4096 : Shape := ⟨1, ![4096]⟩
abbrev S256 : Shape := ⟨1, ![256]⟩
abbrev S16 : Shape := ⟨1, ![16]⟩
abbrev S_ : Shape := ⟨0, ![]⟩
abbrev S4x2048 : Shape := ⟨2, ![4, 2048]⟩
abbrev S4x2048x1 : Shape := ⟨3, ![4, 2048, 1]⟩
abbrev S4x2048x4096x1 : Shape := ⟨4, ![4, 2048, 4096, 1]⟩
abbrev S4x2048x1x1 : Shape := ⟨4, ![4, 2048, 1, 1]⟩
abbrev S15 : Shape := ⟨1, ![15]⟩
abbrev S1x1x1x15 : Shape := ⟨4, ![1, 1, 1, 15]⟩
abbrev S4x2048x1x15 : Shape := ⟨4, ![4, 2048, 1, 15]⟩
abbrev S1x1x4096 : Shape := ⟨3, ![1, 1, 4096]⟩
abbrev S8192x4096 : Shape := ⟨2, ![8192, 4096]⟩

abbrev nBuf : Space → Nat
  | .hbm => 202
  | .vmem => 0
  | .smem => 0
  | _ => 0

abbrev hbmTy0_0 (i : Nat) : BufTy := match i % 128 with
  | 0 => ⟨S4x2048x4096, .f32⟩
  | 1 => ⟨S4096, .f32⟩
  | 2 => ⟨S4096, .f32⟩
  | 3 => ⟨S256, .i32⟩
  | 4 => ⟨S16, .f32⟩
  | 5 => ⟨S16, .f32⟩
  | 6 => ⟨S4x2048x4096, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S4x2048x4096, .f32⟩
  | 14 => ⟨S4x2048x4096, .f32⟩
  | 15 => ⟨S4x2048x4096, .f32⟩
  | 16 => ⟨S4x2048x4096, .f32⟩
  | 17 => ⟨S4x2048x4096, .f32⟩
  | 18 => ⟨S_, .f32⟩
  | 19 => ⟨S_, .f32⟩
  | 20 => ⟨S_, .f32⟩
  | 21 => ⟨S4x2048x4096, .f32⟩
  | 22 => ⟨S4x2048x4096, .f32⟩
  | 23 => ⟨S_, .f32⟩
  | 24 => ⟨S4x2048x4096, .f32⟩
  | 25 => ⟨S4x2048x4096, .f32⟩
  | 26 => ⟨S4x2048x4096, .f32⟩
  | 27 => ⟨S4x2048x4096, .f32⟩
  | 28 => ⟨S_, .f32⟩
  | 29 => ⟨S4x2048, .f32⟩
  | 30 => ⟨S4x2048x1, .f32⟩
  | 31 => ⟨S4x2048x4096, .f32⟩
  | 32 => ⟨S4x2048x4096, .i32⟩
  | 33 => ⟨S_, .i32⟩
  | 34 => ⟨S4x2048x4096, .i32⟩
  | 35 => ⟨S4x2048x4096, .i32⟩
  | 36 => ⟨S_, .i32⟩
  | 37 => ⟨S4x2048x4096, .i32⟩
  | 38 => ⟨S4x2048x4096, .i32⟩
  | 39 => ⟨S_, .i32⟩
  | 40 => ⟨S4x2048x4096, .i32⟩
  | 41 => ⟨S4x2048x4096, .i1⟩
  | 42 => ⟨S_, .i32⟩
  | 43 => ⟨S4x2048x4096, .i32⟩
  | 44 => ⟨S4x2048x4096, .i32⟩
  | 45 => ⟨S4x2048x4096, .i32⟩
  | 46 => ⟨S4x2048x4096x1, .i32⟩
  | 47 => ⟨S4x2048x4096, .f32⟩
  | 48 => ⟨S_, .f32⟩
  | 49 => ⟨S4x2048x4096, .f32⟩
  | 50 => ⟨S4x2048x4096, .f32⟩
  | 51 => ⟨S4x2048x4096, .i32⟩
  | 52 => ⟨S4x2048x4096, .f32⟩
  | 53 => ⟨S_, .f32⟩
  | 54 => ⟨S4x2048x4096, .f32⟩
  | 55 => ⟨S4x2048x4096, .f32⟩
  | 56 => ⟨S4x2048x4096, .f32⟩
  | 57 => ⟨S_, .i32⟩
  | 58 => ⟨S4x2048x4096, .i32⟩
  | 59 => ⟨S4x2048x4096, .i1⟩
  | 60 => ⟨S_, .i32⟩
  | 61 => ⟨S4x2048x4096, .i32⟩
  | 62 => ⟨S4x2048x4096, .i32⟩
  | 63 => ⟨S4x2048x4096, .i32⟩
  | 64 => ⟨S4x2048x4096x1, .i32⟩
  | 65 => ⟨S4x2048x4096, .f32⟩
  | 66 => ⟨S4x2048x4096, .f32⟩
  | 67 => ⟨S_, .f32⟩
  | 68 => ⟨S4x2048x4096, .f32⟩
  | 69 => ⟨S4x2048x4096, .f32⟩
  | 70 => ⟨S_, .f32⟩
  | 71 => ⟨S4x2048, .f32⟩
  | 72 => ⟨S4x2048x1, .f32⟩
  | 73 => ⟨S_, .f32⟩
  | 74 => ⟨S4x2048x1, .f32⟩
  | 75 => ⟨S4x2048x1, .f32⟩
  | 76 => ⟨S_, .f32⟩
  | 77 => ⟨S4x2048x1, .f32⟩
  | 78 => ⟨S4x2048x1, .f32⟩
  | 79 => ⟨S4x2048x1, .f32⟩
  | 80 => ⟨S4x2048x1, .f32⟩
  | 81 => ⟨S_, .f32⟩
  | 82 => ⟨S4x2048x1, .f32⟩
  | 83 => ⟨S4x2048x1, .f32⟩
  | 84 => ⟨S4x2048x1, .f32⟩
  | 85 => ⟨S4x2048x1, .f32⟩
  | 86 => ⟨S4x2048x1, .f32⟩
  | 87 => ⟨S_, .f32⟩
  | 88 => ⟨S_, .f32⟩
  | 89 => ⟨S_, .f32⟩
  | 90 => ⟨S4x2048x1, .f32⟩
  | 91 => ⟨S4x2048x1, .f32⟩
  | 92 => ⟨S_, .f32⟩
  | 93 => ⟨S4x2048x1, .f32⟩
  | 94 => ⟨S4x2048x1, .f32⟩
  | 95 => ⟨S4x2048x1, .i32⟩
  | 96 => ⟨S4x2048x1x1, .i32⟩
  | 97 => ⟨S15, .i32⟩
  | 98 => ⟨S_, .i32⟩
  | 99 => ⟨S15, .i32⟩
  | 100 => ⟨S15, .i32⟩
  | 101 => ⟨S_, .i32⟩
  | 102 => ⟨S15, .i32⟩
  | 103 => ⟨S15, .i32⟩
  | 104 => ⟨S1x1x1x15, .i32⟩
  | 105 => ⟨S4x2048x1x15, .i32⟩
  | 106 => ⟨S4x2048x1x15, .i32⟩
  | 107 => ⟨S4x2048x1x15, .i1⟩
  | 108 => ⟨S4x2048x1x15, .i32⟩
  | 109 => ⟨S_, .i32⟩
  | 110 => ⟨S4x2048x1, .i32⟩
  | 111 => ⟨S_, .i32⟩
  | 112 => ⟨S_, .i32⟩
  | 113 => ⟨S4x2048x1, .i32⟩
  | 114 => ⟨S4x2048x1, .i32⟩
  | 115 => ⟨S4x2048x1, .i32⟩
  | 116 => ⟨S_, .i32⟩
  | 117 => ⟨S4x2048x1, .i32⟩
  | 118 => ⟨S4x2048x1, .i1⟩
  | 119 => ⟨S4x2048x1, .i32⟩
  | 120 => ⟨S4x2048x1, .i32⟩
  | 121 => ⟨S_, .i32⟩
  | 122 => ⟨S4x2048x1, .i32⟩
  | 123 => ⟨S4x2048x1, .i1⟩
  | 124 => ⟨S4x2048x1, .i1⟩
  | 125 => ⟨S_, .i32⟩
  | 126 => ⟨S4x2048x1, .i32⟩
  | 127 => ⟨S4x2048x1, .i32⟩
  | _ => ⟨S4x2048x4096, .f32⟩

abbrev hbmTy0_1 (i : Nat) : BufTy := match i % 128 with
  | 0 => ⟨S4x2048x1, .i32⟩
  | 1 => ⟨S_, .i32⟩
  | 2 => ⟨S4x2048x1, .i32⟩
  | 3 => ⟨S4x2048x1, .i32⟩
  | 4 => ⟨S_, .i32⟩
  | 5 => ⟨S4x2048x1, .i32⟩
  | 6 => ⟨S4x2048x1, .i32⟩
  | 7 => ⟨S4x2048x1, .i32⟩
  | 8 => ⟨S_, .i32⟩
  | 9 => ⟨S4x2048x1, .i32⟩
  | 10 => ⟨S4x2048x1, .i32⟩
  | 11 => ⟨S_, .i32⟩
  | 12 => ⟨S4x2048x1, .i32⟩
  | 13 => ⟨S4x2048x1, .i32⟩
  | 14 => ⟨S_, .i32⟩
  | 15 => ⟨S4x2048x1, .i32⟩
  | 16 => ⟨S4x2048x1, .i1⟩
  | 17 => ⟨S_, .i32⟩
  | 18 => ⟨S4x2048x1, .i32⟩
  | 19 => ⟨S4x2048x1, .i32⟩
  | 20 => ⟨S4x2048x1, .i32⟩
  | 21 => ⟨S4x2048x1x1, .i32⟩
  | 22 => ⟨S4x2048x1, .i32⟩
  | 23 => ⟨S_, .i32⟩
  | 24 => ⟨S4x2048x1, .i32⟩
  | 25 => ⟨S4x2048x1, .i32⟩
  | 26 => ⟨S4x2048x1, .i32⟩
  | 27 => ⟨S4x2048x1, .i32⟩
  | 28 => ⟨S4x2048x1, .i32⟩
  | 29 => ⟨S4x2048x1, .i1⟩
  | 30 => ⟨S_, .i32⟩
  | 31 => ⟨S4x2048x1, .i32⟩
  | 32 => ⟨S4x2048x1, .i32⟩
  | 33 => ⟨S4x2048x1, .i32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x4096, .f32⟩
  | 42 => ⟨S4x2048x4096, .f32⟩
  | 43 => ⟨S4x2048x4096, .f32⟩
  | 44 => ⟨S4x2048x4096, .f32⟩
  | 45 => ⟨S1x1x4096, .f32⟩
  | 46 => ⟨S4x2048x4096, .f32⟩
  | 47 => ⟨S4x2048x4096, .f32⟩
  | 48 => ⟨S1x1x4096, .f32⟩
  | 49 => ⟨S4x2048x4096, .f32⟩
  | 50 => ⟨S4x2048x4096, .f32⟩
  | 51 => ⟨S4x2048x4096, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4x2048x4096, .f32⟩
  | 59 => ⟨S4x2048x4096, .f32⟩
  | 60 => ⟨S4x2048x4096, .f32⟩
  | 61 => ⟨S4x2048x4096, .f32⟩
  | 62 => ⟨S4x2048x4096, .f32⟩
  | 63 => ⟨S_, .f32⟩
  | 64 => ⟨S_, .f32⟩
  | 65 => ⟨S_, .f32⟩
  | 66 => ⟨S4x2048x4096, .f32⟩
  | 67 => ⟨S4x2048x4096, .f32⟩
  | 68 => ⟨S_, .f32⟩
  | 69 => ⟨S4x2048x4096, .f32⟩
  | 70 => ⟨S4x2048x4096, .f32⟩
  | 71 => ⟨S4x2048x4096, .f32⟩
  | 72 => ⟨S4x2048x4096, .f32⟩
  | 73 => ⟨S8192x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_v37 : Ref sig .tc := ⟨.hbm, 59, rfl⟩
abbrev main_c_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_cst_18 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_19 : Ref sig .tc := ⟨.hbm, 98, rfl⟩
abbrev main_v64 : Ref sig .tc := ⟨.hbm, 99, rfl⟩
abbrev main_v65 : Ref sig .tc := ⟨.hbm, 100, rfl⟩
abbrev main_c_20 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_21 : Ref sig .tc := ⟨.hbm, 109, rfl⟩
abbrev main_v73 : Ref sig .tc := ⟨.hbm, 110, rfl⟩
abbrev main_c_22 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_c : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_0 : Ref sig .tc := ⟨.hbm, 125, rfl⟩
abbrev main_call4_v12 : Ref sig .tc := ⟨.hbm, 126, rfl⟩
abbrev main_call4_v13 : Ref sig .tc := ⟨.hbm, 127, rfl⟩
abbrev main_v74 : Ref sig .tc := ⟨.hbm, 128, rfl⟩
abbrev main_c_23 : Ref sig .tc := ⟨.hbm, 129, rfl⟩
abbrev main_v75 : Ref sig .tc := ⟨.hbm, 130, rfl⟩
abbrev main_v76 : Ref sig .tc := ⟨.hbm, 131, rfl⟩
abbrev main_c_24 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_25 : Ref sig .tc := ⟨.hbm, 136, rfl⟩
abbrev main_v80 : Ref sig .tc := ⟨.hbm, 137, rfl⟩
abbrev main_v81 : Ref sig .tc := ⟨.hbm, 138, rfl⟩
abbrev main_c_26 : Ref sig .tc := ⟨.hbm, 139, rfl⟩
abbrev main_v82 : Ref sig .tc := ⟨.hbm, 140, rfl⟩
abbrev main_v83 : Ref sig .tc := ⟨.hbm, 141, rfl⟩
abbrev main_c_27 : Ref sig .tc := ⟨.hbm, 142, rfl⟩
abbrev main_v84 : Ref sig .tc := ⟨.hbm, 143, rfl⟩
abbrev main_v85 : Ref sig .tc := ⟨.hbm, 144, rfl⟩
abbrev main_c_28 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_29 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_c_30 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_31 : Ref sig .tc := ⟨.hbm, 163, rfl⟩
abbrev main_v101 : Ref sig .tc := ⟨.hbm, 164, rfl⟩
abbrev main_v102 : Ref sig .tc := ⟨.hbm, 165, rfl⟩
abbrev main_cst_32 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_33 : Ref sig .tc := ⟨.hbm, 180, rfl⟩
abbrev main_v116 : Ref sig .tc := ⟨.hbm, 181, rfl⟩
abbrev main_cst_34 : Ref sig .tc := ⟨.hbm, 182, rfl⟩
abbrev main_v117 : Ref sig .tc := ⟨.hbm, 183, rfl⟩
abbrev main_cst_35 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_36 : Ref sig .tc := ⟨.hbm, 191, rfl⟩
abbrev main_cst_37 : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩

abbrev nD : Nat := 1
abbrev τ : Topo := Topo.v7x

variable {F : FTy → Type} [FloatOps F]
-- ==== Proof.Rows.lean ====
/- The per-row scratch of the kernel: an [8192, 4] array that each grid point fills or reads one
   [512, 1] column piece at a time. What a store leaves in it and what a load takes out of it. -/
module

public import proofs.«01_k».proof.Proof.Gen.KernelIdeal.Frame
public import Idealize.ShloMosaic.Lib.Pipeline.ValueKit

@[expose] public section

set_option maxRecDepth 16384

noncomputable section

namespace Cert.KernelIdeal.Rows

open Idealize.ShloMosaic Idealize.ShloMosaic.TcCoe
open Idealize.SL.Sem
open Cert.KernelIdeal Cert.KernelIdeal.Gen

variable {F : FTy → Type} [FloatOps F]

/-- The row block the grid point with coordinates `i` works on. -/
abbrev blk (i : grid0.Coords) : Fin 16 := i 1

/-- The place of entry `r` of the column piece that block `k` keeps in column `q`. -/
def at8 (k : Fin 16) (r : Fin 512) (q : Fin 4) : S8192x4.Idx :=
  ValueIdx.ix2 (⟨512 * k.val + r.val, by have := k.isLt; have := r.isLt; omega⟩ : Fin 8192) q

/-- The column piece of block `k` in column `q`. -/
def getCol (k : Fin 16) (q : Fin 4) (R : Vec F S8192x4 .f32) : Vec F S512x1 .f32 :=
  fun x => R (at8 k (x 0) q)

/-- The array with the column piece of block `k` in column `q` replaced. -/
def putCol (k : Fin 16) (q : Fin 4) (w : Vec F S512x1 .f32) (R : Vec F S8192x4 .f32) : Vec F S8192x4 .f32 :=
  fun y => if (y 0).val / 512 = k.val ∧ (y 1).val = q.val then
      w (ValueIdx.ix2 (⟨(y 0).val % 512, Nat.mod_lt _ (by norm_num)⟩ : Fin 512) (0 : Fin 1)) else R y

/-- A piece put in is what is read out again. -/
theorem getCol_putCol_same (k : Fin 16) (q : Fin 4) (w : Vec F S512x1 .f32) (R : Vec F S8192x4 .f32) :
    getCol k q (putCol k q w R) = w := by
  funext x
  have hx : (x 0).val < 512 := (x 0).isLt
  have h0 : (at8 k (x 0) q 0).val = 512 * k.val + (x 0).val := rfl
  have h1 : (at8 k (x 0) q 1).val = q.val := rfl
  unfold getCol putCol
  rw [if_pos ⟨by rw [h0]; omega, h1⟩]
  congr 1
  funext a
  fin_cases a
  · apply Fin.ext
    show (at8 k (x 0) q 0).val % 512 = (x 0).val
    rw [h0]; omega
  · exact Subsingleton.elim (α := Fin 1) _ _

/-- A piece of another block or another column stays as it was. -/
theorem getCol_putCol_ne (k k' : Fin 16) (q q' : Fin 4) (h : k ≠ k' ∨ q ≠ q') (w : Vec F S512x1 .f32) (R : Vec F S8192x4 .f32) :
    getCol k q (putCol k' q' w R) = getCol k q R := by
  funext x
  have hx : (x 0).val < 512 := (x 0).isLt
  have h0 : (at8 k (x 0) q 0).val = 512 * k.val + (x 0).val := rfl
  have h1 : (at8 k (x 0) q 1).val = q.val := rfl
  unfold getCol putCol
  rw [if_neg]
  rintro ⟨e0, e1⟩
  rw [h0] at e0; rw [h1] at e1
  rcases h with h | h
  · exact h (Fin.ext (by omega))
  · exact h (Fin.ext e1)

theorem off1 (i : grid0.Coords) : k0_off1 i = ![512 * (i 1).val, 0] := by revert i; decide +kernel
theorem off2 (i : grid0.Coords) : k0_off2 i = ![512 * (i 1).val, 1] := by revert i; decide +kernel
theorem off3 (i : grid0.Coords) : k0_off3 i = ![512 * (i 1).val, 2] := by revert i; decide +kernel
theorem off4 (i : grid0.Coords) : k0_off4 i = ![512 * (i 1).val, 3] := by revert i; decide +kernel
theorem off5 (i : grid0.Coords) : k0_off5 i = ![512 * (i 1).val, 0] := by revert i; decide +kernel
theorem off6 (i : grid0.Coords) : k0_off6 i = ![512 * (i 1).val, 1] := by revert i; decide +kernel
theorem off7 (i : grid0.Coords) : k0_off7 i = ![512 * (i 1).val, 2] := by revert i; decide +kernel
theorem off8 (i : grid0.Coords) : k0_off8 i = ![512 * (i 1).val, 3] := by revert i; decide +kernel

/-- What is left by a list of stores whose newest one is the piece of block `k` in column `q`. -/
theorem read_writes_put (v : View sig .tc .vmem S8192x4 .f32) (f : v.ty.Contents (Elt F)) (L : List (View.Piece (Elt F) S8192x4 .f32))
    (k : Fin 16) (q : Fin 4) (off : Fin 2 → ℕ) (hoff : off = ![512 * k.val, q.val])
    (inb : ∀ a, off a + S512x1.size a ≤ S8192x4.size a) (w : Vec F S512x1 .f32) :
    v.read (Elt F) (v.writes (Elt F) f ((⟨Rect.unit (s := S8192x4) off S512x1.size inb, w⟩ : View.Piece (Elt F) S8192x4 .f32) :: L))
      = putCol k q w (v.read (Elt F) (v.writes (Elt F) f L)) := by
  subst hoff
  funext y
  have hy : (y 0).val < 8192 := (y 0).isLt
  unfold putCol
  by_cases h : (y 0).val / 512 = k.val ∧ (y 1).val = q.val
  · rw [if_pos h]
    refine View.read_writes_cons_hit_of_coords v f (Rect.unit (s := S8192x4) ![512 * k.val, q.val] S512x1.size inb) w L _ y ?_
    intro a
    fin_cases a
    · show (y 0).val = 512 * k.val + 1 * ((y 0).val % 512); omega
    · show (y 1).val = q.val + 1 * 0; omega
  · rw [if_neg h]
    by_cases h1 : (y 1).val = q.val
    · exact View.read_writes_cons_miss_of_axis v f _ L y 0 (512 * k.val) 512 rfl rfl rfl (by omega)
    · exact View.read_writes_cons_miss_of_axis v f _ L y 1 q.val 1 rfl rfl rfl (by omega)

/-- What a load of the piece of block `k` in column `q` takes out. -/
theorem readAt_get (v : View sig .tc .vmem S8192x4 .f32) (f : v.ty.Contents (Elt F))
    (k : Fin 16) (q : Fin 4) (off : Fin 2 → ℕ) (hoff : off = ![512 * k.val, q.val])
    (inb : ∀ a, off a + S512x1.size a ≤ S8192x4.size a) :
    v.readAt (Elt F) (Rect.unit (s := S8192x4) off S512x1.size inb).toLoadRect f = getCol k q (v.read (Elt F) f) := by
  subst hoff
  funext x
  rw [View.readAt_apply]
  unfold getCol
  congr 1
  funext a
  apply Fin.ext
  fin_cases a
  · show 512 * k.val + 1 * (x 0).val = 512 * k.val + (x 0).val; omega
  · show q.val + 1 * (x 1).val = q.val
    have : (x 1).val < 1 := (x 1).isLt
    omega

/-- A store of a whole buffer leaves its payload. -/
theorem read_writes_whole {s : Shape} {e : EltTy} (v : View sig .tc .vmem s e) (f : v.ty.Contents (Elt F)) (off : Fin s.rank → ℕ)
    (hoff : ∀ a, off a = 0) (inb : ∀ a, off a + s.size a ≤ s.size a) (w : s.Idx → Elt F e) (L : List (View.Piece (Elt F) s e)) :
    v.read (Elt F) (v.writes (Elt F) f ((⟨Rect.unit (s := s) off s.size inb, w⟩ : View.Piece (Elt F) s e) :: L)) = w := by
  funext y
  refine View.read_writes_cons_hit_of_coords v f (Rect.unit (s := s) off s.size inb) w L y y fun a => ?_
  show (y a).val = off a + 1 * (y a).val
  rw [hoff]; omega

/-- A load of a whole buffer takes out its contents. -/
theorem readAt_whole {s : Shape} {e : EltTy} (v : View sig .tc .vmem s e) (f : v.ty.Contents (Elt F)) (off : Fin s.rank → ℕ)
    (hoff : ∀ a, off a = 0) (inb : ∀ a, off a + s.size a ≤ s.size a) :
    v.readAt (Elt F) (Rect.unit (s := s) off s.size inb).toLoadRect f = v.read (Elt F) f := by
  funext x
  rw [View.readAt_apply]
  congr 1
  funext a
  apply Fin.ext
  show off a + 1 * (x a).val = (x a).val
  rw [hoff]; omega

theorem zero2 : ∀ a, (![0, 0] : Fin 2 → ℕ) a = 0 := by decide

end Cert.KernelIdeal.Rows

end
-- ==== Proof.Steps.lean ====
/- What the kernel body does at one grid point, in each of its three phases: from the input blocks and
   the contents of the three scratch buffers to what it leaves in them and in the output block. -/
module

public import proofs.«01_k».proof.Proof.Rows
public import proofs.«01_k».proof.Proof.Gen.KernelIdeal.Skeleton

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Rows

variable {F : FTy → Type} [FloatOps F]

local notation "𝕄" => MT nD τ sig Unit (Elt F) ℕ (UR sig nD τ) ℕ

variable (c : Dev nD) (i : grid0.Coords) (arg2 : Memref sig .tc .vmem S1x4096 .f32) (harg2 : arg2.IsWhole) (arg3 : Memref sig .tc .vmem S1x4096 .f32) (harg3 : arg3.IsWhole) (arg4 : Memref sig .tc .vmem S512x4096 .f32) (harg4 : arg4.IsWhole) (arg5 : Memref sig .tc .vmem S512x4096 .f32) (harg5 : arg5.IsWhole)
  (arg6 : Memref sig .tc .vmem S1x128 .f32) (harg6 : arg6.IsWhole) (arg7 : Memref sig .tc .vmem S1x128 .f32) (harg7 : arg7.IsWhole) (arg8 : Memref sig .tc .vmem S8192x4 .f32) (harg8 : arg8.IsWhole)
  (x0 x1 : Vec F S1x4096 .f32) (x2 xi : Vec F S512x4096 .f32) (fx fy : Vec F S1x128 .f32) (fr : Vec F S8192x4 .f32)

/-- The body's seven buffers at given contents: the two affine rows, the input block, the output block, and the scratches. -/
def held (x0 x1 : Vec F S1x4096 .f32) (x2 xi : Vec F S512x4096 .f32) (fx fy : Vec F S1x128 .f32) (fr : Vec F S8192x4 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare xi ∗ owns (c : Thread nD τ) arg6 fullShare fx ∗ owns (c : Thread nD τ) arg7 fullShare fy
    ∗ owns (c : Thread nD τ) arg8 fullShare fr)

set_option maxHeartbeats 1000000 in
/-- Phase 0: the row maxima and minima of the block go into columns 0 and 1, the bound of the block into the running bound of |x|. -/
theorem phase0 (hc1 : k0_cond1 i = 1#1) (hc2 : ¬k0_cond2 i = 1#1) (hc3 : ¬k0_cond3 i = 1#1) (E : Set ℕ) (K : PUnit → sProp 𝕄) :
    iprop(held c arg2 arg3 arg4 arg5 arg6 arg7 arg8 x0 x1 x2 xi fx fy fr
        ∗ (held c arg2 arg3 arg4 arg5 arg6 arg7 arg8 x0 x1 x2 xi (k0_pay6 i x2 fx) fy (putCol (blk i) 1 (k0_pay5 x2) (putCol (blk i) 0 (k0_pay4 x2) fr)) -∗ K ⟨⟩))
      ⊢ wp frame (wpE (defs₀ (F := F)) Variants.none c none) E (cc0_ailn_fused i arg2 harg2 arg3 harg3 arg4 harg4 arg5 harg5 arg6 harg6 arg7 harg7 arg8 harg8) K := by
  unfold held
  simp only [cc0_ailn_fused_eq_skeleton]; unfold cc0_ailn_fused_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact (read_writes_whole _ _ _ zero2 _ _ _).trans
      (congrArg₂ (k0_pay6 i) ((readAt_whole _ _ _ zero2 _).trans hf4) ((readAt_whole _ _ _ zero2 _).trans hf6))
  isplitl [H7]
  · iexists _; isplitr; swap; · iexact H7
    ipureintro; exact hf7
  iexists _; isplitr; swap; · iexact H8
  ipureintro; refine (read_writes_put _ _ _ (blk i) 1 _ (off2 i) _ _).trans (congrArg₂ (putCol _ _) ?_ ?_)
  · exact congrArg k0_pay5 ((readAt_whole _ _ _ zero2 _).trans hf4)
  · exact (read_writes_put _ _ _ (blk i) 0 _ (off1 i) _ _).trans
      (congrArg₂ (putCol _ _) (congrArg k0_pay4 ((readAt_whole _ _ _ zero2 _).trans hf4)) hf8)

set_option maxHeartbeats 1000000 in
/-- Phase 1: the mean and the reciprocal deviation of each row go into columns 2 and 3, the bound of the block into the running bound of |y|. -/
theorem phase1 (hc1 : ¬k0_cond1 i = 1#1) (hc2 : k0_cond2 i = 1#1) (hc3 : ¬k0_cond3 i = 1#1) (E : Set ℕ) (K : PUnit → sProp 𝕄) :
    iprop(held c arg2 arg3 arg4 arg5 arg6 arg7 arg8 x0 x1 x2 xi fx fy fr
        ∗ (held c arg2 arg3 arg4 arg5 arg6 arg7 arg8 x0 x1 x2 xi fx (k0_pay9 i (k0_pay13 fx x2) (k0_pay14 fx x2) (getCol (blk i) 0 fr) (getCol (blk i) 1 fr) fy) (putCol (blk i) 3 (k0_pay8 (k0_pay14 fx x2)) (putCol (blk i) 2 (k0_pay7 (k0_pay13 fx x2)) fr)) -∗ K ⟨⟩))
      ⊢ wp frame (wpE (defs₀ (F := F)) Variants.none c none) E (cc0_ailn_fused i arg2 harg2 arg3 harg3 arg4 harg4 arg5 harg5 arg6 harg6 arg7 harg7 arg8 harg8) K := by
  unfold held
  simp only [cc0_ailn_fused_eq_skeleton]; unfold cc0_ailn_fused_skel
  simp only [k0_part1_eq_skeleton]; unfold k0_part1_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; refine (read_writes_whole _ _ _ zero2 _ _ _).trans (congr (congr (congr (congr (congrArg (k0_pay9 i) ?_) ?_) ?_) ?_) ?_)
    · exact congrArg₂ k0_pay13 ((readAt_whole _ _ _ zero2 _).trans hf6) ((readAt_whole _ _ _ zero2 _).trans hf4)
    · exact congrArg₂ k0_pay14 ((readAt_whole _ _ _ zero2 _).trans hf6) ((readAt_whole _ _ _ zero2 _).trans hf4)
    · exact (readAt_get _ _ (blk i) 0 _ (off5 i) _).trans (congrArg (getCol _ _) hf8)
    · exact (readAt_get _ _ (blk i) 1 _ (off6 i) _).trans (congrArg (getCol _ _) hf8)
    · exact (readAt_whole _ _ _ zero2 _).trans hf7
  iexists _; isplitr; swap; · iexact H8
  ipureintro; refine (read_writes_put _ _ _ (blk i) 3 _ (off4 i) _ _).trans (congrArg₂ (putCol _ _) ?_ ?_)
  · exact congrArg k0_pay8 (congrArg₂ k0_pay14 ((readAt_whole _ _ _ zero2 _).trans hf6) ((readAt_whole _ _ _ zero2 _).trans hf4))
  · exact (read_writes_put _ _ _ (blk i) 2 _ (off3 i) _ _).trans (congrArg₂ (putCol _ _)
      (congrArg k0_pay7 (congrArg₂ k0_pay13 ((readAt_whole _ _ _ zero2 _).trans hf6) ((readAt_whole _ _ _ zero2 _).trans hf4))) hf8)

set_option maxHeartbeats 1000000 in
/-- Phase 2: the normalised, requantised block goes into the output block. -/
theorem phase2 (hc1 : ¬k0_cond1 i = 1#1) (hc2 : ¬k0_cond2 i = 1#1) (hc3 : k0_cond3 i = 1#1) (E : Set ℕ) (K : PUnit → sProp 𝕄) :
    iprop(held c arg2 arg3 arg4 arg5 arg6 arg7 arg8 x0 x1 x2 xi fx fy fr
        ∗ (held c arg2 arg3 arg4 arg5 arg6 arg7 arg8 x0 x1 x2 (k0_pay10 fy x2 (getCol (blk i) 2 fr) (getCol (blk i) 3 fr) x0 x1) fx fy fr -∗ K ⟨⟩))
      ⊢ wp frame (wpE (defs₀ (F := F)) Variants.none c none) E (cc0_ailn_fused i arg2 harg2 arg3 harg3 arg4 harg4 arg5 harg5 arg6 harg6 arg7 harg7 arg8 harg8) K := by
  unfold held
  simp only [cc0_ailn_fused_eq_skeleton]; unfold cc0_ailn_fused_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; refine (read_writes_whole _ _ _ zero2 _ _ _).trans (congr (congr (congr (congr (congr (congrArg k0_pay10 ?_) ?_) ?_) ?_) ?_) ?_)
    · exact (readAt_whole _ _ _ zero2 _).trans hf7
    · exact (readAt_whole _ _ _ zero2 _).trans hf4
    · exact (readAt_get _ _ (blk i) 2 _ (off7 i) _).trans (congrArg (getCol _ _) hf8)
    · exact (readAt_get _ _ (blk i) 3 _ (off8 i) _).trans (congrArg (getCol _ _) hf8)
    · exact (readAt_whole _ _ _ zero2 _).trans hf2
    · exact (readAt_whole _ _ _ zero2 _).trans hf3
  isplitl [H6]
  · iexists _; isplitr; swap; · iexact H6
    ipureintro; exact hf6
  isplitl [H7]
  · iexists _; isplitr; swap; · iexact H7
    ipureintro; exact hf7
  iexists _; isplitr; swap; · iexact H8
  ipureintro; exact hf8

end Cert.KernelIdeal.Steps

end
-- ==== Proof.Run.lean ====
/- The run of the kernel, at any values: what the three scratch buffers hold between the grid points,
   and the array of results at the end. The grid is three passes over sixteen blocks of 512 rows. -/
module

public import proofs.«01_k».proof.Proof.Steps

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Rows Cert.KernelIdeal.Steps

variable {F : FTy → Type} [FloatOps F]

local notation "𝕄" => MT nD τ sig Unit (Elt F) ℕ (UR sig nD τ) ℕ

/-! ## Grid points -/

theorem crd0 (t : Fin cfg0.N) : (grid0.coords t 0).val = t.val / 16 := by
  have ht : t.val < 48 := Nat.lt_of_lt_of_eq t.isLt N_0
  have e0 : (grid0.coords t 0).val = t.val / 16 % 3 := Pipeline.Grid.coords_val t 0 (by decide) rfl
  omega
theorem crd1 (t : Fin cfg0.N) : (grid0.coords t 1).val = t.val % 16 := by
  have e1 : (grid0.coords t 1).val = t.val / 1 % 16 := Pipeline.Grid.coords_val t 1 (by decide) rfl
  omega

theorem cond1_iff (i : grid0.Coords) : k0_cond1 i = 1#1 ↔ (i 0).val = 0 := by revert i; decide +kernel
theorem cond2_iff (i : grid0.Coords) : k0_cond2 i = 1#1 ↔ (i 0).val = 1 := by revert i; decide +kernel
theorem cond3_iff (i : grid0.Coords) : k0_cond3 i = 1#1 ↔ (i 0).val = 2 := by revert i; decide +kernel

/-- The output block is touched in the last pass only: before it the window is idle and nothing is written back. -/
theorem idle3 : ∀ t : Fin cfg0.N, t.val < 32 → cfg0.idle 3 (grid0.coords t) = true ∧ (cfg0.win 3).flush t = false := by decide +kernel
theorem live3 : ∀ t : Fin cfg0.N, ¬t.val < 32 → cfg0.idle 3 (grid0.coords t) = false := by decide +kernel

/-- A grid point named by its number. -/
def pt (n : ℕ) : Fin cfg0.N := ⟨n % 48, by rw [show cfg0.N = 48 from N_0]; exact Nat.mod_lt _ (by norm_num)⟩

theorem pt_val (t : Fin cfg0.N) : pt t.val = t :=
  Fin.ext (Nat.mod_eq_of_lt (Nat.lt_of_lt_of_eq t.isLt N_0))

/-! ## What the scratch buffers hold -/

/-- Block `k` of 512 rows. -/
def xb (A : Vec F S8192x4096 .f32) (k : Fin 16) : Vec F S512x4096 .f32 :=
  fun y => A (ValueIdx.ix2 (⟨512 * k.val + (y 0).val, by have := k.isLt; have : (y 0).val < 512 := (y 0).isLt; omega⟩ : Fin 8192) (y 1 : Fin 4096))

/-- The running bound of |x| after block `k`. -/
def xacc (A : Vec F S8192x4096 .f32) : ℕ → Vec F S1x128 .f32
  | 0 => k0_pay6 (grid0.coords (pt 0)) (xb A (blk (grid0.coords (pt 0)))) (broadcast S1x128 (Scalar.ofBits .f32 0#32))
  | k + 1 => k0_pay6 (grid0.coords (pt (k + 1))) (xb A (blk (grid0.coords (pt (k + 1))))) (xacc A k)

/-- The means of the rows of block `k`, as the kernel stores them. -/
def muB (A : Vec F S8192x4096 .f32) (k : Fin 16) : Vec F S512x1 .f32 := k0_pay13 (xacc A 15) (xb A k)
/-- The reciprocal deviations of the rows of block `k`, as the kernel stores them. -/
def invB (A : Vec F S8192x4096 .f32) (k : Fin 16) : Vec F S512x1 .f32 := k0_pay14 (xacc A 15) (xb A k)

/-- One step of the running bound of |y|, at the grid point `t`. -/
def ystep (A : Vec F S8192x4096 .f32) (t : Fin cfg0.N) (old : Vec F S1x128 .f32) : Vec F S1x128 .f32 :=
  k0_pay9 (grid0.coords t) (muB A (blk (grid0.coords t))) (invB A (blk (grid0.coords t)))
    (k0_pay4 (xb A (blk (grid0.coords t)))) (k0_pay5 (xb A (blk (grid0.coords t)))) old

/-- The running bound of |y| after block `k`. -/
def yacc (A : Vec F S8192x4096 .f32) : ℕ → Vec F S1x128 .f32
  | 0 => ystep A (pt 16) (broadcast S1x128 (Scalar.ofBits .f32 0#32))
  | k + 1 => ystep A (pt (16 + (k + 1))) (yacc A k)

/-- The block of results of block `k`. -/
def outB (A : Vec F S8192x4096 .f32) (g b : Vec F S1x4096 .f32) (k : Fin 16) : Vec F S512x4096 .f32 :=
  k0_pay10 (yacc A 15) (xb A k) (k0_pay7 (muB A k)) (k0_pay8 (invB A k)) g b

/-- At the first block of a pass the running bound starts anew. -/
theorem pay6_first (i : grid0.Coords) (h : (i 1).val = 0) (x : Vec F S512x4096 .f32) (a b : Vec F S1x128 .f32) : k0_pay6 i x a = k0_pay6 i x b := by
  unfold k0_pay6; simp only [h]; rfl
theorem pay9_first (i : grid0.Coords) (h : (i 1).val = 0) (x y z w : Vec F S512x1 .f32) (a b : Vec F S1x128 .f32) : k0_pay9 i x y z w a = k0_pay9 i x y z w b := by
  unfold k0_pay9; simp only [h]; rfl

/-- What holds of the scratch contents after the first `n` grid points. -/
structure Inv (A : Vec F S8192x4096 .f32) (n : ℕ) (fx fy : Vec F S1x128 .f32) (fr : Vec F S8192x4 .f32) : Prop where
  hx : ∀ k, k < 16 → n = k + 1 ∨ (16 ≤ n ∧ k = 15) → fx = xacc A k
  hy : ∀ k, k < 16 → n = 16 + (k + 1) ∨ (32 ≤ n ∧ k = 15) → fy = yacc A k
  c0 : ∀ k : Fin 16, k.val < n → getCol k 0 fr = k0_pay4 (xb A k)
  c1 : ∀ k : Fin 16, k.val < n → getCol k 1 fr = k0_pay5 (xb A k)
  c2 : ∀ k : Fin 16, 16 + k.val < n → getCol k 2 fr = k0_pay7 (muB A k)
  c3 : ∀ k : Fin 16, 16 + k.val < n → getCol k 3 fr = k0_pay8 (invB A k)

theorem Inv.zero (A : Vec F S8192x4096 .f32) (fx fy : Vec F S1x128 .f32) (fr : Vec F S8192x4 .f32) : Inv A 0 fx fy fr :=
  ⟨fun k _ h => by omega, fun k _ h => by omega, fun k h => by omega, fun k h => by omega, fun k h => by omega, fun k h => by omega⟩

variable {A : Vec F S8192x4096 .f32} {fx fy : Vec F S1x128 .f32} {fr : Vec F S8192x4 .f32}

theorem blk_ne {t : Fin cfg0.N} {k : Fin 16} (h : k.val ≠ t.val % 16) : k ≠ blk (grid0.coords t) := fun e =>
  h (by rw [e]; exact crd1 t)

/-- A point of the first pass. -/
theorem Inv.step0 (t : Fin cfg0.N) (ht : t.val < 16) (h : Inv A t.val fx fy fr) :
    Inv A (t.val + 1) (k0_pay6 (grid0.coords t) (xb A (blk (grid0.coords t))) fx) fy
      (putCol (blk (grid0.coords t)) 1 (k0_pay5 (xb A (blk (grid0.coords t)))) (putCol (blk (grid0.coords t)) 0 (k0_pay4 (xb A (blk (grid0.coords t)))) fr)) where
  hx k hk hn := by
    have e : t.val = k := by omega
    have et : t = pt k := by rw [← e, pt_val]
    cases k with
    | zero => rw [et]; exact pay6_first _ (by rw [crd1, ← et, e]) _ _ _
    | succ k => rw [et, h.hx k (by omega) (.inl e)]; rfl
  hy k _ hn := by omega
  c0 k hk := by
    by_cases e : k = blk (grid0.coords t)
    · rw [e, getCol_putCol_ne _ _ _ _ (.inr (by decide)), getCol_putCol_same]
    · rw [getCol_putCol_ne _ _ _ _ (.inl e), getCol_putCol_ne _ _ _ _ (.inl e)]
      exact h.c0 k (by have := crd1 t; by_contra hc; exact e (Fin.ext (by show k.val = (grid0.coords t 1).val; omega)))
  c1 k hk := by
    by_cases e : k = blk (grid0.coords t)
    · rw [e, getCol_putCol_same]
    · rw [getCol_putCol_ne _ _ _ _ (.inl e), getCol_putCol_ne _ _ _ _ (.inl e)]
      exact h.c1 k (by have := crd1 t; by_contra hc; exact e (Fin.ext (by show k.val = (grid0.coords t 1).val; omega)))
  c2 k hk := by omega
  c3 k hk := by omega

/-- A point of the second pass. -/
theorem Inv.step1 (t : Fin cfg0.N) (ht : 16 ≤ t.val) (ht' : t.val < 32) (h : Inv A t.val fx fy fr) :
    Inv A (t.val + 1) fx (k0_pay9 (grid0.coords t) (k0_pay13 fx (xb A (blk (grid0.coords t)))) (k0_pay14 fx (xb A (blk (grid0.coords t))))
        (getCol (blk (grid0.coords t)) 0 fr) (getCol (blk (grid0.coords t)) 1 fr) fy)
      (putCol (blk (grid0.coords t)) 3 (k0_pay8 (k0_pay14 fx (xb A (blk (grid0.coords t)))))
        (putCol (blk (grid0.coords t)) 2 (k0_pay7 (k0_pay13 fx (xb A (blk (grid0.coords t))))) fr)) := by
  have ex : fx = xacc A 15 := h.hx 15 (by norm_num) (.inr ⟨ht, rfl⟩)
  have hb : (blk (grid0.coords t)).val < t.val := by have := crd1 t; show (grid0.coords t 1).val < _; omega
  rw [h.c0 _ hb, h.c1 _ hb, ex]
  exact
  { hx := fun k hk hn => by rw [show k = 15 by omega]
    hy := fun k hk hn => by
      have e : t.val = 16 + k := by omega
      have et : t = pt (16 + k) := by rw [← e, pt_val]
      cases k with
      | zero => rw [et]; exact pay9_first _ (by rw [crd1, ← et, e]) _ _ _ _ _ (broadcast S1x128 (Scalar.ofBits .f32 0#32))
      | succ k => rw [et, h.hy k (by omega) (.inl e)]; rfl
    c0 := fun k hk => by
      rw [getCol_putCol_ne _ _ _ _ (.inr (by decide)), getCol_putCol_ne _ _ _ _ (.inr (by decide))]
      exact h.c0 k (by omega)
    c1 := fun k hk => by
      rw [getCol_putCol_ne _ _ _ _ (.inr (by decide)), getCol_putCol_ne _ _ _ _ (.inr (by decide))]
      exact h.c1 k (by omega)
    c2 := fun k hk => by
      by_cases e : k = blk (grid0.coords t)
      · rw [e, getCol_putCol_ne _ _ _ _ (.inr (by decide)), getCol_putCol_same]; rfl
      · rw [getCol_putCol_ne _ _ _ _ (.inl e), getCol_putCol_ne _ _ _ _ (.inl e)]
        exact h.c2 k (by have := crd1 t; by_contra hc; exact e (Fin.ext (by show k.val = (grid0.coords t 1).val; omega)))
    c3 := fun k hk => by
      by_cases e : k = blk (grid0.coords t)
      · rw [e, getCol_putCol_same]; rfl
      · rw [getCol_putCol_ne _ _ _ _ (.inl e), getCol_putCol_ne _ _ _ _ (.inl e)]
        exact h.c3 k (by have := crd1 t; by_contra hc; exact e (Fin.ext (by show k.val = (grid0.coords t 1).val; omega))) }

/-- A point of the third pass: the scratches stay, and what is stored is the block of results. -/
theorem Inv.step2 (t : Fin cfg0.N) (ht : 32 ≤ t.val) (h : Inv A t.val fx fy fr) : Inv A (t.val + 1) fx fy fr where
  hx k hk hn := h.hx k hk (by omega)
  hy k hk hn := h.hy k hk (by omega)
  c0 k hk := h.c0 k (by omega)
  c1 k hk := h.c1 k (by omega)
  c2 k hk := h.c2 k (by omega)
  c3 k hk := h.c3 k (by omega)

theorem Inv.out (t : Fin cfg0.N) (ht : 32 ≤ t.val) (h : Inv A t.val fx fy fr) (g b : Vec F S1x4096 .f32) :
    k0_pay10 fy (xb A (blk (grid0.coords t))) (getCol (blk (grid0.coords t)) 2 fr) (getCol (blk (grid0.coords t)) 3 fr) g b
      = outB A g b (blk (grid0.coords t)) := by
  have hb : 16 + (blk (grid0.coords t)).val < t.val := by have := crd1 t; show 16 + (grid0.coords t 1).val < _; omega
  rw [h.hy 15 (by norm_num) (.inr ⟨ht, rfl⟩), h.c2 _ hb, h.c3 _ hb]; rfl

end Cert.KernelIdeal.Run

end
-- ==== Proof.Launch.lean ====
/- The launch of the kernel: its body meets the grid's obligation at every point, and so the whole run ends with
   every block of results in place, the arguments unchanged and the counters at zero. -/
module

public import proofs.«01_k».proof.Proof.Run

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Rows Cert.KernelIdeal.Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of the input, as the region finds them. -/
def arrX (c : Dev nD) : Vec F S8192x4096 .f32 := V m c (Pipeline.arrRef spec0 2)

theorem idx2 : ∀ t : Fin cfg0.N, win0_2.index t = ![t.val % 16, 0] :=
  (by decide +kernel : ∀ t : Fin grid0.N, win0_2.index t = ![t.val % 16, 0])

/-- The input block of a grid point is its block of rows. -/
theorem iblk2 (c : Dev nD) (t : Fin cfg0.N) : iblk m c 2 t = xb (arrX m c) (blk (grid0.coords t)) := by
  have e1 : (blk (grid0.coords t)).val = t.val % 16 := crd1 t
  funext y
  unfold iblk xb
  show V m c (Pipeline.arrRef spec0 2) _ = V m c (Pipeline.arrRef spec0 2) _
  blk_ext [idx2 t, e1]

/-- The body's staging buffers at a grid point, and the three scratches. -/
abbrev ms0 (t : Fin cfg0.N) : Memref sig .tc .vmem S1x4096 .f32 := win0_0.stage (cfg0.slots t 0)
abbrev ms1 (t : Fin cfg0.N) : Memref sig .tc .vmem S1x4096 .f32 := win0_1.stage (cfg0.slots t 1)
abbrev ms2 (t : Fin cfg0.N) : Memref sig .tc .vmem S512x4096 .f32 := win0_2.stage (cfg0.slots t 2)
abbrev ms3 (t : Fin cfg0.N) : Memref sig .tc .vmem S512x4096 .f32 := win0_3.stage (cfg0.slots t 3)
abbrev scrX : Memref sig .tc .vmem S1x128 .f32 := Memref.whole cc0_scratch0
abbrev scrY : Memref sig .tc .vmem S1x128 .f32 := Memref.whole cc0_scratch1
abbrev scrR : Memref sig .tc .vmem S8192x4 .f32 := Memref.whole cc0_scratch2

/-- What the launch hands the region: each scratch at some contents, and the generator's register. -/
theorem PhiA_eq (c : Dev nD) :
    (Pipeline.ΦA spec0 c : sProp 𝕄)
      = iprop(iprop((∃ d, owns (c : Thread nD τ) scrX fullShare d) ∗ (∃ d, owns (c : Thread nD τ) scrY fullShare d) ∗ (∃ d, owns (c : Thread nD τ) scrR fullShare d)) ∗ (∃ r, prngReg c r)) := by
  unfold Pipeline.ΦA; rw [scopedRest0_eq]; simp only [scrX, scrY, scrR, owns_whole]; try rfl

/-- Between the points: the scratches at contents that satisfy the invariant. -/
def Phi (c : Dev nD) (n : ℕ) : sProp 𝕄 :=
  iprop((∃ fx : Vec F S1x128 .f32, ∃ fy : Vec F S1x128 .f32, ∃ fr : Vec F S8192x4 .f32,
      ⌜Inv (arrX m c) n fx fy fr⌝ ∗ owns (c : Thread nD τ) scrX fullShare fx ∗ owns (c : Thread nD τ) scrY fullShare fy ∗ owns (c : Thread nD τ) scrR fullShare fr)
    ∗ (∃ r, prngReg c r))

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (arrX m c) (iblk m c 0 t) (iblk m c 1 t) (blk (grid0.coords t))
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outB (arrX m c) (iblk m c 0 t) (iblk m c 1 t) (blk (grid0.coords t)) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- The body's precondition and postcondition at a grid point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hN : t.val < 48 := lt_of_lt_of_eq t.isLt N_0
  have e0 := crd0 t
  unfold bodyPre bodyPost bodyAt0
  simp only [before0, before1, before2]
  rw [show (dats m 0 c).owesAt () t.succ = (dats m 0 c).owesAt () t.castSucc from rfl,
    show (dats m 0 c).Φ t.succ = Phi m c (t.val + 1) from rfl, show (dats m 0 c).Φ t.castSucc = Phi m c t.val from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    after0, after1, after2, iblk2]
  unfold Phi
  by_cases h1 : t.val < 16
  · rw [Dat.leavesExact_idle (dats m 0 c) 3 t (idle3 t (by omega)).1 (idle3 t (by omega)).2]
    iintro ⟨⟨⟨%fx, %fy, %fr, %hI, HX, HY, HR⟩, Hg⟩, Ho, ⟨%d0, H0⟩, ⟨%d1, H1⟩, ⟨%d2, H2⟩, ⟨%d3, H3⟩⟩
    iapply (phase0 c (grid0.coords t) _ _ _ _ _ _ _ _ _ _ _ _ _ _ _ _ _ _ fx fy fr ((cond1_iff _).mpr (by omega)) (fun h => by have := (cond2_iff _).mp h; omega) (fun h => by have := (cond3_iff _).mp h; omega) Set.univ _)
    unfold held
    isplitl [H0 H1 H2 H3 HX HY HR]
    · isplitl [H0]; · iexact H0
      isplitl [H1]; · iexact H1
      isplitl [H2]; · iexact H2
      isplitl [H3]; · iexact H3
      isplitl [HX]; · iexact HX
      isplitl [HY]; · iexact HY
      iexact HR
    iintro ⟨H0, H1, H2, H3, HX, HY, HR⟩
    isplitl [HX HY HR Hg]
    · isplitl [HX HY HR]
      · iexists _; iexists _; iexists _
        isplitr; · ipureintro; exact hI.step0 t h1
        isplitl [HX]; · iexact HX
        isplitl [HY]; · iexact HY
        iexact HR
      iexact Hg
    isplitl [Ho]; · iexact Ho
    isplitl [H0]; · iexact H0
    isplitl [H1]; · iexact H1
    isplitl [H2]; · iexact H2
    iexists _; iexact H3
  · by_cases h2 : t.val < 32
    · rw [Dat.leavesExact_idle (dats m 0 c) 3 t (idle3 t (by omega)).1 (idle3 t (by omega)).2]
      iintro ⟨⟨⟨%fx, %fy, %fr, %hI, HX, HY, HR⟩, Hg⟩, Ho, ⟨%d0, H0⟩, ⟨%d1, H1⟩, ⟨%d2, H2⟩, ⟨%d3, H3⟩⟩
      iapply (phase1 c (grid0.coords t) _ _ _ _ _ _ _ _ _ _ _ _ _ _ _ _ _ _ fx fy fr (fun h => by have := (cond1_iff _).mp h; omega) ((cond2_iff _).mpr (by omega)) (fun h => by have := (cond3_iff _).mp h; omega) Set.univ _)
      unfold held
      isplitl [H0 H1 H2 H3 HX HY HR]
      · isplitl [H0]; · iexact H0
        isplitl [H1]; · iexact H1
        isplitl [H2]; · iexact H2
        isplitl [H3]; · iexact H3
        isplitl [HX]; · iexact HX
        isplitl [HY]; · iexact HY
        iexact HR
      iintro ⟨H0, H1, H2, H3, HX, HY, HR⟩
      isplitl [HX HY HR Hg]
      · isplitl [HX HY HR]
        · iexists _; iexists _; iexists _
          isplitr; · ipureintro; exact hI.step1 t (by omega) h2
          isplitl [HX]; · iexact HX
          isplitl [HY]; · iexact HY
          iexact HR
        iexact Hg
      isplitl [Ho]; · iexact Ho
      isplitl [H0]; · iexact H0
      isplitl [H1]; · iexact H1
      isplitl [H2]; · iexact H2
      iexists _; iexact H3
    · rw [show (dats m 0 c).leavesExact 3 t = owns (c : Thread nD τ) (ms3 t) fullShare ((dats m 0 c).after 3 t) from by
        unfold Dat.leavesExact; rw [live3 t h2], after3]
      iintro ⟨⟨⟨%fx, %fy, %fr, %hI, HX, HY, HR⟩, Hg⟩, Ho, ⟨%d0, H0⟩, ⟨%d1, H1⟩, ⟨%d2, H2⟩, ⟨%d3, H3⟩⟩
      iapply (phase2 c (grid0.coords t) _ _ _ _ _ _ _ _ _ _ _ _ _ _ _ _ _ _ fx fy fr (fun h => by have := (cond1_iff _).mp h; omega) (fun h => by have := (cond2_iff _).mp h; omega) ((cond3_iff _).mpr (by omega)) Set.univ _)
      unfold held
      rw [hI.out t (by omega)]
      isplitl [H0 H1 H2 H3 HX HY HR]
      · isplitl [H0]; · iexact H0
        isplitl [H1]; · iexact H1
        isplitl [H2]; · iexact H2
        isplitl [H3]; · iexact H3
        isplitl [HX]; · iexact HX
        isplitl [HY]; · iexact HY
        iexact HR
      iintro ⟨H0, H1, H2, H3, HX, HY, HR⟩
      isplitl [HX HY HR Hg]
      · isplitl [HX HY HR]
        · iexists _; iexists _; iexists _
          isplitr; · ipureintro; exact hI.step2 t (by omega)
          isplitl [HX]; · iexact HX
          isplitl [HY]; · iexact HY
          iexact HR
        iexact Hg
      isplitl [Ho]; · iexact Ho
      isplitl [H0]; · iexact H0
      isplitl [H1]; · iexact H1
      isplitl [H2]; · iexact H2
      iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%fx, HX⟩, ⟨%fy, HY⟩, ⟨%fr, HR⟩⟩, Hg⟩
  isplitl [HX HY HR]
  · iexists fx; iexists fy; iexists fr
    isplitr; · ipureintro; exact Inv.zero _ _ _ _
    isplitl [HX]; · iexact HX
    isplitl [HY]; · iexact HY
    iexact HR
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%fx, %fy, %fr, %hI, HX, HY, HR⟩, Hg⟩
  isplitl [HX HY HR]
  · isplitl [HX]; · iexists _; iexact HX
    isplitl [HY]; · iexists _; iexact HY
    iexists _; iexact HR
  iexact Hg

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.SameText.lean ====
/- The kernel as it is compiled and the kernel read over the extended reals have the same text, so the frame proved
   of the one at any values is the frame of the other. -/
module

public import proofs.«01_k».proof.Defs
public import proofs.«01_k».proof.Proof.Launch
public import proofs.«01_k».proof.Proof.Gen.Kernel

@[expose] public section

noncomputable section

namespace Cert.SameText

open Idealize.ShloMosaic Idealize.SL.Sem

local instance : Cert.Kernel.Facts := Cert.Kernel.Gen.facts
local instance : Cert.KernelIdeal.Facts := Cert.KernelIdeal.Gen.facts

variable (F : FTy → Type) [FloatOps F]

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq : Cert.Kernel.defs (F := F) = Cert.KernelIdeal.defs (F := F) :=
  congrArg (Pipeline.defs Cert.KernelIdeal.pcfgs) (defs₀_eq F)

/-- The frame of the kernel as it is compiled. -/
theorem frame_kernel : Cert.quiescent_Kernel := fun m g _ => by
  have h := Cert.KernelIdeal.Run.frame (F := Bits) m g
  rw [← defs_eq Bits] at h
  exact h

end Cert.SameText

end
-- ==== Proof.Value.lean ====
module
public import proofs.«01_k».proof.Proof.Launch
public import Idealize.ShloMosaic.Lib.Pipeline.ValueKit
public import Idealize.ShloMosaic.Lib.Claim
public import Idealize.ShloMosaic.Lib.Pointwise
@[expose] public section
set_option maxRecDepth 16384

/-! What the result array holds when the kernel has run, and what the arrays that enter the launch are. -/

noncomputable section
namespace Cert.KernelIdeal.Run
open Idealize.ShloMosaic Idealize.ShloMosaic.TcCoe Idealize.SL.Sem
open Idealize.ShloMosaic.Pipeline (Dat Cfg Window)
open Cert.KernelIdeal Cert.KernelIdeal.Gen Cert.KernelIdeal.Rows

variable {F : FTy → Type} [FloatOps F]
variable (m : (ℓ : Loc nD τ sig) → Buf (Elt F) ℓ)

/-- The scale and the offset as the region finds them: arrays of one row. -/
def arrG (c : Dev nD) : Vec F S1x4096 .f32 := V m c (Pipeline.arrRef spec0 0)
def arrB (c : Dev nD) : Vec F S1x4096 .f32 := V m c (Pipeline.arrRef spec0 1)

theorem idx0 : ∀ t : Fin cfg0.N, win0_0.index t = ![0, 0] ∧ win0_1.index t = ![0, 0] :=
  (by decide +kernel : ∀ t : Fin grid0.N, win0_0.index t = ![0, 0] ∧ win0_1.index t = ![0, 0])

theorem idx3 : ∀ t : Fin cfg0.N, ¬t.val < 32 → win0_3.index t = ![t.val % 16, 0] :=
  (by decide +kernel : ∀ t : Fin grid0.N, ¬t.val < 32 → win0_3.index t = ![t.val % 16, 0])

/-- The blocks of the scale and of the offset are the whole rows. -/
theorem iblk0 (c : Dev nD) (t : Fin cfg0.N) : iblk m c 0 t = arrG m c := by
  funext y
  unfold iblk arrG
  show V m c (Pipeline.arrRef spec0 0) _ = V m c (Pipeline.arrRef spec0 0) _
  blk_ext [(idx0 t).1]

theorem iblk1 (c : Dev nD) (t : Fin cfg0.N) : iblk m c 1 t = arrB m c := by
  funext y
  unfold iblk arrB
  show V m c (Pipeline.arrRef spec0 1) _ = V m c (Pipeline.arrRef spec0 1) _
  blk_ext [(idx0 t).2]

/-- Row `i` of the result is row `i % 512` of the block `i / 512`. -/
def rowsOut (A : Vec F S8192x4096 .f32) (g b : Vec F S1x4096 .f32) : Vec F S8192x4096 .f32 := fun i =>
  outB A g b (⟨(i 0).val / 512, by have : (i 0).val < 8192 := (i 0).isLt; omega⟩ : Fin 16)
    (ix2 (⟨(i 0).val % 512, Nat.mod_lt _ (by norm_num)⟩ : Fin 512) (i 1 : Fin 4096))

theorem rowsOut_apply (A : Vec F S8192x4096 .f32) (g b : Vec F S1x4096 .f32) (i : S8192x4096.Idx) (k : Fin 16) (j : S512x4096.Idx)
    (h0 : (i 0).val = 512 * k.val + (j 0).val) (h1 : (i 1).val = (j 1).val) : rowsOut A g b i = outB A g b k j := by
  have hj : (j 0).val < 512 := (j 0).isLt
  unfold rowsOut
  refine congr (congrArg _ (Fin.ext ?_)) (funext fun a => Fin.ext ?_)
  · show (i 0).val / 512 = k.val
    omega
  · match a with
    | ⟨0, _⟩ => show (i 0).val % 512 = (j 0).val; omega
    | ⟨1, _⟩ => exact h1

/-- The result array when the launch is done. -/
theorem final (c : Dev nD) : (dats m 0 c).arrAt 3 cfg0.N = rowsOut (arrX m c) (arrG m c) (arrB m c) := by
  refine (dats m 0 c).arrAt_eq_of_covers 3 _ (by decide +kernel) fun t hf y => ?_
  have ht : ¬t.val < 32 := fun h => by have := (idle3 t h).2; rw [this] at hf; exact absurd hf (by decide)
  have e1 : (blk (grid0.coords t)).val = t.val % 16 := crd1 t
  blk_simp
  rw [after3, iblk0, iblk1]
  have e0 : (((cfg0.win 3).blk t).view.emb y 0).val = 512 * (t.val % 16) + (y 0).val := by
    blk_simp [idx3 t ht]
    omega
  have e2 : (((cfg0.win 3).blk t).view.emb y 1).val = (y 1).val := by
    blk_simp [idx3 t ht]
  exact (rowsOut_apply _ _ _ _ _ _ (by rw [e1]; exact e0) e2).symm

/-- The arrays that enter the launch are the arguments, reshaped. -/
theorem arrX_eq (c : Dev nD) : arrX m c = shapeCast S8192x4096 (m ((c.tc : Thread nD τ).loc main_arg0) : Vec F S4x2048x4096 .f32) shapeCasts_S4x2048x4096_S8192x4096 := by
  unfold arrX
  show V m c main_v0 = _
  entry_read
  rfl
theorem arrG_eq (c : Dev nD) : arrG m c = shapeCast S1x4096 (m ((c.tc : Thread nD τ).loc main_arg1) : Vec F S4096 .f32) shapeCasts_S4096_S1x4096 := by
  unfold arrG
  show V m c main_v1 = _
  entry_read
  rfl
theorem arrB_eq (c : Dev nD) : arrB m c = shapeCast S1x4096 (m ((c.tc : Thread nD τ).loc main_arg2) : Vec F S4096 .f32) shapeCasts_S4096_S1x4096 := by
  unfold arrB
  show V m c main_v2 = _
  entry_read
  rfl

end Cert.KernelIdeal.Run
end
-- ==== Proof.Consts.lean ====
/- The float constants of the two programs, as extended reals. -/
module

public import Idealize.ShloMosaic.PureOps.Ideal.Laws
public import Idealize.ShloMosaic.PureOps.Ideal

@[expose] public section

noncomputable section

namespace Cert.Arith

open Idealize.ShloMosaic

/-- The least scale. -/
def tiny : EReal := Ideal.ofBits .f32 0x322BCC77#32
/-- The least deviation. -/
def eps : EReal := Ideal.ofBits .f32 0x3727C5AC#32

theorem c_bot : Ideal.ofBits .f32 0xFF800000#32 = ⊥ := by simp [Ideal.ofBits, Ideal.ieee]
theorem c_top : Ideal.ofBits .f32 0x7F800000#32 = ⊤ := by simp [Ideal.ofBits, Ideal.ieee]
theorem c_127 : Ideal.ofBits .f32 0x42FE0000#32 = ((127 : ℝ) : EReal) := by simp [Ideal.ofBits, Ideal.ieee, -EReal.coe_mul]; try norm_num
theorem c_m127 : Ideal.ofBits .f32 0xC2FE0000#32 = ((-127 : ℝ) : EReal) := by simp [Ideal.ofBits, Ideal.ieee, -EReal.coe_mul]; try norm_num
theorem c_inv4096 : Ideal.ofBits .f32 0x39800000#32 = ((1 / 4096 : ℝ) : EReal) := by simp [Ideal.ofBits, Ideal.ieee, -EReal.coe_mul]; try norm_num
theorem c_4096 : Ideal.ofBits .f32 0x45800000#32 = ((4096 : ℝ) : EReal) := by simp [Ideal.ofBits, Ideal.ieee, -EReal.coe_mul]; try norm_num
theorem c_65535 : Ideal.ofBits .f32 0x477FFF00#32 = ((65535 : ℝ) : EReal) := by simp [Ideal.ofBits, Ideal.ieee, -EReal.coe_mul]; try norm_num
theorem c_1 : Ideal.ofBits .f32 0x3F800000#32 = ((1 : ℝ) : EReal) := by simp [Ideal.ofBits, Ideal.ieee, -EReal.coe_mul]; try norm_num
theorem c_256 : Ideal.ofBits .f32 0x43800000#32 = ((256 : ℝ) : EReal) := by simp [Ideal.ofBits, Ideal.ieee, -EReal.coe_mul]; try norm_num
theorem c_32 : Ideal.ofBits .f32 0x42000000#32 = ((32 : ℝ) : EReal) := by simp [Ideal.ofBits, Ideal.ieee, -EReal.coe_mul]; try norm_num

theorem tiny_pos : ∃ r : ℝ, 0 < r ∧ tiny = (r : EReal) :=
  ⟨(11258999 : ℝ) * 2 ^ (-50 : ℤ), by positivity, by simp [tiny, Ideal.ofBits, Ideal.ieee]⟩
theorem eps_le : ∃ r : ℝ, r ≤ 1 ∧ eps = (r : EReal) :=
  ⟨(10995116 : ℝ) * 2 ^ (-40 : ℤ), by norm_num, by simp [eps, Ideal.ofBits, Ideal.ieee]⟩

end Cert.Arith

end
-- ==== Proof.Round.lean ====
module
public import proofs.«01_k».proof.Proof.Consts
@[expose] public section

/-! Facts about rounding to the nearest integer, and about extended reals that are real numbers. -/

namespace Cert.Arith
open Idealize.ShloMosaic

/-- Rounding to the nearest integer, halves to even, on the extended reals. -/
noncomputable abbrev rnd (x : EReal) : EReal := Ideal.liftRound Ideal.roundHalfEven x

theorem rhe_ge {r : ℝ} {n : ℤ} (h : (n : ℝ) ≤ r) : n ≤ Ideal.roundHalfEven r := by
  have hf : n ≤ ⌊r⌋ := Int.le_floor.mpr h
  unfold Ideal.roundHalfEven
  simp only
  split_ifs <;> omega

theorem rhe_le {r : ℝ} {n : ℤ} (h : r ≤ (n : ℝ)) : Ideal.roundHalfEven r ≤ n := by
  rcases h.eq_or_lt with rfl | h
  · unfold Ideal.roundHalfEven
    norm_num
  · have hf : ⌊r⌋ < n := Int.floor_lt.mpr h
    unfold Ideal.roundHalfEven
    simp only
    split_ifs <;> omega

/-- A number less than a half away from an integer rounds to it. -/
theorem rhe_near {r : ℝ} {n : ℤ} (h₁ : (n : ℝ) - 1 / 2 < r) (h₂ : r < (n : ℝ) + 1 / 2) :
    Ideal.roundHalfEven r = n := by
  by_cases hn : (n : ℝ) ≤ r
  · have hf : ⌊r⌋ = n := Int.floor_eq_iff.mpr ⟨hn, by linarith⟩
    unfold Ideal.roundHalfEven
    simp only [hf]
    rw [if_pos (by linarith)]
  · have hf : ⌊r⌋ = n - 1 := Int.floor_eq_iff.mpr ⟨by push_cast; linarith, by push_cast; linarith⟩
    unfold Ideal.roundHalfEven
    simp only [hf]
    rw [if_neg (by push_cast; linarith), if_pos (by push_cast; linarith)]
    omega

/-- The square root of a positive integer rounds to the integer it is nearest to. -/
theorem rhe_sqrt {D r : ℕ} (hr : 1 ≤ r) (h₁ : r * r < D + r) (h₂ : D ≤ r * r + r) :
    Ideal.roundHalfEven (Real.sqrt D) = (r : ℤ) := by
  have hr' : (1 : ℝ) ≤ r := by exact_mod_cast hr
  have a₁ : (r : ℝ) * r + 1 ≤ D + r := by exact_mod_cast h₁
  have a₂ : (D : ℝ) ≤ r * r + r := by exact_mod_cast h₂
  refine rhe_near ?_ ?_
  · push_cast
    refine Real.lt_sqrt_of_sq_lt ?_
    nlinarith
  · push_cast
    rw [Real.sqrt_lt' (by linarith)]
    nlinarith

theorem rnd_real (r : ℝ) : rnd (r : EReal) = ((Ideal.roundHalfEven r : ℝ) : EReal) := Ideal.liftRound_coe _ _

/-- The straight-through form of a rounding is the rounding. -/
theorem ste (t : ℝ) : (t : EReal) + (rnd (t : EReal) - (t : EReal)) = rnd (t : EReal) := by
  rw [rnd_real, ← EReal.coe_sub, ← EReal.coe_add]
  congr 1
  ring

/-- A sum of real numbers, taken in the extended reals. -/
theorem coe_sum {ι : Type*} (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- Clipping to an interval of integers. -/
theorem clip_int {lo hi n : ℤ} {a b : EReal} (ha : a = ((hi : ℝ) : EReal)) (hb : b = ((lo : ℝ) : EReal)) (h : lo ≤ n) (h' : n ≤ hi) :
    min a (max b ((n : ℝ) : EReal)) = ((n : ℝ) : EReal) := by
  rw [ha, hb, max_eq_right (EReal.coe_le_coe_iff.mpr (by exact_mod_cast h)),
    min_eq_right (EReal.coe_le_coe_iff.mpr (by exact_mod_cast h'))]

/-- The step of a quantiser: a 127th of the bound, kept above a small number. -/
noncomputable abbrev step (M : EReal) : EReal := max (Ideal.div M (Ideal.ofBits .f32 0x42FE0000#32)) tiny

theorem step_cases (M : EReal) : step M = ⊤ ∨ ∃ σ : ℝ, 0 < σ ∧ step M = (σ : EReal) := by
  obtain ⟨τ, hτ, ht⟩ := tiny_pos
  have h0 : (0 : EReal) < step M := lt_of_lt_of_le (by rw [ht]; exact_mod_cast hτ) (le_max_right _ _)
  generalize step M = s at h0
  induction s using EReal.rec with
  | bot => exact absurd h0 (by simp)
  | coe σ => exact Or.inr ⟨σ, by exact_mod_cast h0, rfl⟩
  | top => exact Or.inl rfl

/-- A number within the bound, divided by the step, is a real number whose rounding lies in [−127, 127]; an
infinite step gives zero. -/
theorem quantised {M x : EReal} (h : x ≤ M) (h' : -x ≤ M) :
    ∃ t : ℝ, Ideal.div x (step M) = (t : EReal) ∧ -127 ≤ Ideal.roundHalfEven t ∧ Ideal.roundHalfEven t ≤ 127
      ∧ (step M = ⊤ → Ideal.roundHalfEven t = 0) := by
  obtain ⟨τ, hτ, ht⟩ := tiny_pos
  have hdiv : ∀ y : EReal, Ideal.div y (Ideal.ofBits .f32 0x42FE0000#32) = y * ((1 / 127 : ℝ) : EReal) := by
    intro y; rw [c_127, Ideal.div_coe (by norm_num)]
  induction M using EReal.rec with
  | bot =>
    rw [le_bot_iff.mp h] at h'
    simp at h'
  | top =>
    have hs : step ⊤ = ⊤ := by
      unfold step
      rw [hdiv, EReal.top_mul_coe_of_pos (by norm_num)]
      simp
    rw [hs]
    refine ⟨0, ?_, ?_⟩
    · simp [Ideal.div]
    · have : Ideal.roundHalfEven 0 = 0 := rhe_near (by norm_num) (by norm_num)
      simp [this]
  | coe m =>
    have hx : ∃ ξ : ℝ, x = (ξ : EReal) := by
      induction x using EReal.rec with
      | bot => simp at h'
      | top => simp at h
      | coe ξ => exact ⟨ξ, rfl⟩
    obtain ⟨ξ, rfl⟩ := hx
    have h1 : ξ ≤ m := by exact_mod_cast h
    have h2 : -ξ ≤ m := by exact_mod_cast h'
    have hs : step (m : EReal) = ((max (m * (1 / 127)) τ : ℝ) : EReal) := by
      unfold step
      rw [hdiv, ht, ← EReal.coe_mul]
      exact (EReal.coe_strictMono.monotone.map_max).symm
    rw [hs]
    set σ := max (m * (1 / 127)) τ with hσ
    have hσ0 : 0 < σ := lt_of_lt_of_le hτ (le_max_right _ _)
    have hm : m ≤ 127 * σ := by have := le_max_left (m * (1 / 127)) τ; linarith
    refine ⟨ξ * (1 / σ), ?_, ?_, ?_, ?_⟩
    · rw [Ideal.div_coe hσ0.ne', ← EReal.coe_mul]
    · refine rhe_ge ?_
      rw [mul_one_div, le_div_iff₀ hσ0]
      push_cast
      linarith
    · refine rhe_le ?_
      rw [mul_one_div, div_le_iff₀ hσ0]
      push_cast
      linarith
    · intro hc; simp at hc

end Cert.Arith
end
-- ==== Proof.Stats.lean ====
module
public import proofs.«01_k».proof.Proof.Round
@[expose] public section

/-! The statistics of one row of 4096 numbers, in the kernel's form and in the reference's, on the extended reals.
Both are the same two real numbers, because the rounded quotients are integers between −127 and 127. -/

noncomputable section
namespace Cert.Arith
open Idealize.ShloMosaic

/-- The kernel's mean: the sum of the codes, times the step, times 1/4096. -/
def mean (s : EReal) (row : Fin 4096 → EReal) : EReal :=
  (∑ l, rnd (Ideal.div (row l) s)) * s * Ideal.ofBits .f32 0x39800000#32

/-- The kernel's variance, kept from falling below zero. -/
def spread (s : EReal) (row : Fin 4096 → EReal) : EReal :=
  max ((∑ l, rnd (Ideal.div (row l) s) * rnd (Ideal.div (row l) s)) * (s * s) * Ideal.ofBits .f32 0x39800000#32
    - mean s row * mean s row) 0

/-- The kernel's reciprocal of the rounded square root of a variance rounded and clipped to sixteen bits. -/
def gain (v : EReal) : EReal :=
  Ideal.div 1 (rnd (Ideal.sqrt (min (Ideal.ofBits .f32 0x477FFF00#32) (max 1 (rnd v)))))

/-- The reference's clipped code of a quotient: its rounding is written straight-through. -/
def clipped (u : EReal) : EReal :=
  min (Ideal.ofBits .f32 0x42FE0000#32) (max (Ideal.ofBits .f32 0xC2FE0000#32) (u + (rnd u - u)))

/-- The reference's mean: each code times the step, summed, divided by 4096. -/
def meanR (s : EReal) (row : Fin 4096 → EReal) : EReal :=
  Ideal.div (∑ l, clipped (Ideal.div (row l) s) * s) (Ideal.ofBits .f32 0x45800000#32)

/-- The reference's variance, from the squares of the codes. -/
def spreadR (s : EReal) (row sq : Fin 4096 → EReal) : EReal :=
  max (Ideal.div (∑ l, sq l * (s * s)) (Ideal.ofBits .f32 0x45800000#32) - meanR s row * meanR s row) 0

/-- A step acts on whole-number codes as a real number does, also when it is infinite: then all codes are zero. -/
theorem step_acts (M : EReal) : ∃ σ : ℝ, ∀ t : ℝ, (step M = ⊤ → t = 0) →
    (t : EReal) * step M = ((t * σ : ℝ) : EReal) ∧ (t : EReal) * (step M * step M) = ((t * (σ * σ) : ℝ) : EReal) := by
  rcases step_cases M with h | ⟨σ, _, h⟩
  · refine ⟨0, fun t ht => ?_⟩
    rw [ht h]
    simp
  · refine ⟨σ, fun t _ => ?_⟩
    rw [h, ← EReal.coe_mul, ← EReal.coe_mul, ← EReal.coe_mul]
    exact ⟨rfl, rfl⟩

theorem div_4096 (x : EReal) : Ideal.div x (Ideal.ofBits .f32 0x45800000#32) = x * ((1 / 4096 : ℝ) : EReal) := by
  rw [c_4096, Ideal.div_coe (by norm_num)]

/-- The statistics of a row whose numbers lie within the bound `M`: codes, mean and variance are real numbers, and
the two programs' forms agree. -/
theorem stats (M : EReal) (row : Fin 4096 → EReal) (h : ∀ l, row l ≤ M ∧ -row l ≤ M) :
    ∃ (n : Fin 4096 → ℤ) (μ v : ℝ), 0 ≤ v ∧ (∀ l, -127 ≤ n l ∧ n l ≤ 127)
      ∧ (∀ l, clipped (Ideal.div (row l) (step M)) = ((n l : ℝ) : EReal))
      ∧ mean (step M) row = (μ : EReal) ∧ meanR (step M) row = (μ : EReal) ∧ spread (step M) row = (v : EReal)
      ∧ ∀ sq : Fin 4096 → EReal, (∀ l, sq l = (((n l : ℝ) * (n l : ℝ) : ℝ) : EReal)) →
          spreadR (step M) row sq = (v : EReal) := by
  choose t ht hlo hhi h0 using fun l => quantised (h l).1 (h l).2
  obtain ⟨σ, hσ⟩ := step_acts M
  set n : Fin 4096 → ℤ := fun l => Ideal.roundHalfEven (t l) with hn
  have h0' : ∀ l, step M = ⊤ → n l = 0 := h0
  have hr : ∀ l, rnd (Ideal.div (row l) (step M)) = ((n l : ℝ) : EReal) := fun l => by rw [ht l, rnd_real]
  have hc : ∀ l, clipped (Ideal.div (row l) (step M)) = ((n l : ℝ) : EReal) := fun l => by
    unfold clipped
    rw [ht l, ste, rnd_real]
    exact clip_int (lo := -127) (hi := 127) (by rw [c_127]; norm_num) (by rw [c_m127]; norm_num) (hlo l) (hhi l)
  have hs1 : ∀ l, ((n l : ℝ) : EReal) * step M = (((n l : ℝ) * σ : ℝ) : EReal) := fun l =>
    (hσ _ fun e => by rw [h0' l e]; norm_num).1
  have hs2 : ∀ l, (((n l : ℝ) * (n l : ℝ) : ℝ) : EReal) * (step M * step M)
      = (((n l : ℝ) * (n l : ℝ) * (σ * σ) : ℝ) : EReal) := fun l =>
    (hσ _ fun e => by rw [h0' l e]; norm_num).2
  have hm : mean (step M) row = (((∑ l, (n l : ℝ)) * σ * (1 / 4096) : ℝ) : EReal) := by
    unfold mean
    rw [Finset.sum_congr rfl fun l _ => hr l, coe_sum, (hσ _ fun e => Finset.sum_eq_zero fun l _ => by
      rw [h0' l e]; norm_num).1, c_inv4096, ← EReal.coe_mul]
  have hmR : meanR (step M) row = (((∑ l, (n l : ℝ)) * σ * (1 / 4096) : ℝ) : EReal) := by
    unfold meanR
    rw [Finset.sum_congr rfl fun l _ => by rw [hc l, hs1 l], coe_sum, ← Finset.sum_mul, div_4096, ← EReal.coe_mul]
  set μ : ℝ := (∑ l, (n l : ℝ)) * σ * (1 / 4096) with hμ
  refine ⟨n, μ, max ((∑ l, (n l : ℝ) * (n l : ℝ)) * (σ * σ) * (1 / 4096) - μ * μ) 0, le_max_right _ _,
    fun l => ⟨hlo l, hhi l⟩, hc, hm, hmR, ?_, fun sq hsq => ?_⟩
  · unfold spread
    rw [hm, Finset.sum_congr rfl fun l _ => by rw [hr l, ← EReal.coe_mul], coe_sum,
      (hσ _ fun e => Finset.sum_eq_zero fun l _ => by rw [h0' l e]; norm_num).2, c_inv4096, ← EReal.coe_mul,
      ← EReal.coe_mul, ← EReal.coe_sub, ← EReal.coe_zero]
    exact (EReal.coe_strictMono.monotone.map_max).symm
  · unfold spreadR
    rw [hmR, Finset.sum_congr rfl fun l _ => by rw [hsq l, hs2 l], coe_sum, ← Finset.sum_mul, div_4096, ← EReal.coe_mul,
      ← EReal.coe_mul, ← EReal.coe_sub, ← EReal.coe_zero]
    exact (EReal.coe_strictMono.monotone.map_max).symm

/-- The clipped rounded variance is a whole number of sixteen bits; the kernel's gain is the reciprocal of the
integer nearest to its square root. -/
theorem gain_eq (v : ℝ) : ∃ D : ℕ, 1 ≤ D ∧ D ≤ 65535
    ∧ min (Ideal.ofBits .f32 0x477FFF00#32) (max 1 ((v : EReal) + (rnd (v : EReal) - (v : EReal)))) = ((D : ℝ) : EReal)
    ∧ ∀ r : ℕ, 1 ≤ r → r * r < D + r → D ≤ r * r + r → gain (v : EReal) = ((1 / (r : ℝ) : ℝ) : EReal) := by
  set z : ℤ := min 65535 (max 1 (Ideal.roundHalfEven v)) with hz
  have hz1 : 1 ≤ z ∧ z ≤ 65535 := by omega
  have hclip : min (Ideal.ofBits .f32 0x477FFF00#32) (max 1 (rnd (v : EReal))) = ((z.toNat : ℝ) : EReal) := by
    rw [c_65535, rnd_real, ← EReal.coe_one, ← EReal.coe_strictMono.monotone.map_max,
      ← EReal.coe_strictMono.monotone.map_min]
    congr 1
    rw [show ((z.toNat : ℕ) : ℝ) = ((z.toNat : ℤ) : ℝ) by norm_cast, Int.toNat_of_nonneg (by omega), hz]
    push_cast
    rfl
  refine ⟨z.toNat, by omega, by omega, by rw [ste, hclip], fun r h1 h2 h3 => ?_⟩
  unfold gain
  rw [hclip]
  have hs : Ideal.sqrt ((z.toNat : ℝ) : EReal) = ((Real.sqrt (z.toNat : ℝ) : ℝ) : EReal) := by
    show (if (z.toNat : ℝ) < 0 then ⊥ else ((Real.sqrt (z.toNat : ℝ) : ℝ) : EReal)) = _
    rw [if_neg (not_lt.mpr (Nat.cast_nonneg _))]
  rw [hs, rnd_real, rhe_sqrt h1 h2 h3, Ideal.div_coe (by have : (0 : ℝ) < r := by exact_mod_cast h1
                                                         push_cast; exact this.ne'), one_mul]
  norm_num

/-- Every positive number has an integer nearest to its square root. -/
theorem nearest (D : ℕ) (h : 1 ≤ D) : ∃ r : ℕ, 1 ≤ r ∧ r * r < D + r ∧ D ≤ r * r + r := by
  have h1 := Nat.sqrt_le D
  have h3 := Nat.lt_succ_sqrt D
  have hpos : 1 ≤ Nat.sqrt D := Nat.sqrt_pos.mpr h
  generalize Nat.sqrt D = q at h1 h3 hpos
  have e : q.succ * q.succ = q * q + q + q + 1 := by rw [Nat.succ_eq_add_one]; ring
  rw [e] at h3
  by_cases hq : D ≤ q * q + q
  · exact ⟨q, hpos, by omega, hq⟩
  · refine ⟨q + 1, by omega, ?_, ?_⟩
    · have : (q + 1) * (q + 1) = q * q + q + q + 1 := by ring
      omega
    · have : (q + 1) * (q + 1) = q * q + q + q + 1 := by ring
      omega

/-- The gain of a real variance is a positive real number. -/
theorem gain_pos (v : ℝ) : ∃ g : ℝ, 0 < g ∧ gain (v : EReal) = (g : EReal) := by
  obtain ⟨D, h1, _, _, hg⟩ := gain_eq v
  obtain ⟨r, hr, h2, h3⟩ := nearest D h1
  have hr' : (0 : ℝ) < r := by exact_mod_cast hr
  exact ⟨1 / r, by positivity, hg r hr h2 h3⟩

end Cert.Arith
end
-- ==== Proof.Extrema.lean ====
module
public import proofs.«01_k».proof.Proof.Consts
@[expose] public section

/-! The largest magnitude of an array, characterised by what it is below. Every running or folded maximum of the two
programs is recognised by this property. -/

noncomputable section
namespace Cert.Arith
open Idealize.ShloMosaic

/-- The largest magnitude of a family. -/
def bound {ι : Type} (f : ι → EReal) : EReal := ⨆ i, max (f i) (-f i)

theorem bound_le {ι : Type} (f : ι → EReal) (c : EReal) : bound f ≤ c ↔ ∀ i, f i ≤ c ∧ -f i ≤ c := by
  simp [bound, iSup_le_iff]

theorem le_bound {ι : Type} (f : ι → EReal) (i : ι) : f i ≤ bound f ∧ -f i ≤ bound f := (bound_le f _).mp le_rfl i

/-- A number below exactly what lies above all magnitudes is the bound. -/
theorem eq_bound {ι : Type} (f : ι → EReal) {z : EReal} (h : ∀ c, z ≤ c ↔ ∀ i, f i ≤ c ∧ -f i ≤ c) : z = bound f :=
  eq_of_forall_ge_iff fun c => by rw [h, bound_le]

theorem fold_max_le {ι : Type} [Fintype ι] (f : ι → EReal) (c : EReal) :
    Finset.fold max (Ideal.ofBits .f32 0xFF800000#32) f Finset.univ ≤ c ↔ ∀ i, f i ≤ c := by
  rw [Finset.fold_max_le, c_bot]
  simp

theorem le_fold_min {ι : Type} [Fintype ι] (f : ι → EReal) (c : EReal) :
    c ≤ Finset.fold min (Ideal.ofBits .f32 0x7F800000#32) f Finset.univ ↔ ∀ i, c ≤ f i := by
  rw [Finset.le_fold_min, c_top]
  simp

theorem zero_sub_le (a c : EReal) : 0 - a ≤ c ↔ -c ≤ a := by
  rw [zero_sub]; exact EReal.neg_le

/-- The negative of a deviation scaled by a real gain. -/
theorem neg_dev (x : EReal) (μ ι : ℝ) : -((x - (μ : EReal)) * (ι : EReal)) = ((μ : EReal) - x) * (ι : EReal) := by
  rw [← EReal.neg_mul, EReal.neg_sub (.inr (by simp)) (.inr (by simp)), add_comm, ← sub_eq_add_neg]

/-- The largest magnitude of a row's scaled deviations, from the row's largest and smallest numbers. -/
theorem row_bound {ι : Type} [Fintype ι] (x : ι → EReal) (μ g : ℝ) (hg : 0 < g) (c : EReal) :
    max (Finset.fold max (Ideal.ofBits .f32 0xFF800000#32) x Finset.univ - (μ : EReal))
        ((μ : EReal) - Finset.fold min (Ideal.ofBits .f32 0x7F800000#32) x Finset.univ) * (g : EReal) ≤ c
      ↔ ∀ i, (x i - (μ : EReal)) * (g : EReal) ≤ c ∧ -((x i - (μ : EReal)) * (g : EReal)) ≤ c := by
  have hd : ∀ a : EReal, a * (g : EReal) ≤ c ↔ a ≤ c / (g : EReal) := fun a =>
    (EReal.le_div_iff_mul_le (by exact_mod_cast hg) (by simp)).symm
  have h1 : ∀ a d : EReal, a - (μ : EReal) ≤ d ↔ a ≤ d + (μ : EReal) := fun a d =>
    EReal.sub_le_iff_le_add (.inl (by simp)) (.inl (by simp))
  have h2 : ∀ a d : EReal, (μ : EReal) - a ≤ d ↔ -(d - (μ : EReal)) ≤ a := fun a d => by
    rw [sub_eq_add_neg, add_comm, ← EReal.le_sub_iff_add_le (.inl (by simp)) (.inl (by simp))]
    exact EReal.neg_le
  simp only [neg_dev, hd, max_le_iff, h1, h2, fold_max_le, le_fold_min, forall_and]

end Cert.Arith
end
-- ==== Proof.Block.lean ====
module
public import proofs.«01_k».proof.Proof.Run
public import proofs.«01_k».proof.Proof.Stats
public import proofs.«01_k».proof.Proof.Extrema
public import Idealize.ShloMosaic.Lib.Pointwise
@[expose] public section
set_option maxRecDepth 16384

/-! What the kernel's payloads compute on the extended reals, read entry by entry, and the closed form of a block of
results when the scale is one and the offset zero. -/

noncomputable section
namespace Cert.KernelIdeal.Run
open Idealize.ShloMosaic Idealize.ShloMosaic.TcCoe Idealize.SL.Sem
open Cert.KernelIdeal Cert.KernelIdeal.Gen Cert.Arith

/-- The row maxima of a block. -/
theorem pay2_apply (x : FVec Ideal S512x4096 .f32) (r : Fin 512) :
    (k0_pay2 x (ix2 r 0) : Ideal .f32)
      = Finset.fold max (Ideal.ofBits .f32 0xFF800000#32) (fun l : Fin 4096 => x (ix2 r l)) Finset.univ := by
  pointwise [k0_pay2, k0_pay1]

/-- The row minima of a block. -/
theorem pay3_apply (x : FVec Ideal S512x4096 .f32) (r : Fin 512) :
    (k0_pay3 x (ix2 r 0) : Ideal .f32)
      = Finset.fold min (Ideal.ofBits .f32 0x7F800000#32) (fun l : Fin 4096 => x (ix2 r l)) Finset.univ := by
  pointwise [k0_pay3, k0_pay1]

theorem pay4_apply (x : FVec Ideal S512x4096 .f32) (r : Fin 512) :
    (k0_pay4 x (ix2 r 0) : Ideal .f32) = k0_pay2 x (ix2 r 0) := by
  pointwise [k0_pay4]

theorem pay5_apply (x : FVec Ideal S512x4096 .f32) (r : Fin 512) :
    (k0_pay5 x (ix2 r 0) : Ideal .f32) = k0_pay3 x (ix2 r 0) := by
  pointwise [k0_pay5]

/-- The largest entry of a column of 512, as the kernel takes it. -/
def colMax (a : FVec Ideal S512x1 .f32) : Ideal .f32 :=
  extractAt ![0, 0, 0] (shapeCast S1x1x1 (multiReduction .maximumf [1, 2] S1
      (shapeCast S1x512x1 a shapeCasts_S512x1_S1x512x1) 0xFF800000#32 reduces_S1x512x1_S1 (.inl rfl) rfl)
    shapeCasts_S1_S1x1x1) inpos_S1x1x1_p0_0_0

/-- The smallest entry of a column of 512, as the kernel takes it. -/
def colMin (a : FVec Ideal S512x1 .f32) : Ideal .f32 :=
  extractAt ![0, 0, 0] (shapeCast S1x1x1 (multiReduction .minimumf [1, 2] S1
      (shapeCast S1x512x1 a shapeCasts_S512x1_S1x512x1) 0x7F800000#32 reduces_S1x512x1_S1 (.inl rfl) rfl)
    shapeCasts_S1_S1x1x1) inpos_S1x1x1_p0_0_0

theorem colMax_eq (a : FVec Ideal S512x1 .f32) : colMax a
    = Finset.fold max (Ideal.ofBits .f32 0xFF800000#32) (fun k : Fin 512 × Fin 1 => a (ix2 k.1 0)) Finset.univ := by
  pointwise [colMax]

theorem colMin_eq (a : FVec Ideal S512x1 .f32) : colMin a
    = Finset.fold min (Ideal.ofBits .f32 0x7F800000#32) (fun k : Fin 512 × Fin 1 => a (ix2 k.1 0)) Finset.univ := by
  pointwise [colMin]

/-- The choice between a fresh start and the running maximum, entry by entry. -/
theorem running_apply (q : BitVec 1) (a b : Ideal .f32) (old : FVec Ideal S1x128 .f32) (l : Fin 128) :
    (shapeCast S1x128 (Scalar.select q
        (broadcast S1x128 (Scalar.maximumf a (Scalar.subf (Scalar.ofBits .f32 0x00000000#32) b)) : FVec Ideal S1x128 .f32)
        (maximumf old (broadcast S1x128 (Scalar.maximumf a (Scalar.subf (Scalar.ofBits .f32 0x00000000#32) b)))))
      shapeCasts_S1x128_S1x128 (ix2 0 l) : Ideal .f32)
      = Scalar.select q (max a (0 - b)) (max (old (ix2 0 l)) (max a (0 - b))) := by
  pointwise

/-- The test for the first block of a pass. -/
theorem first_yes {i : grid0.Coords} (h : (i 1).val = 0) : Scalar.cmpi .eq (BitVec.ofNat 32 (i 1).val) 0#32 = 1#1 := by
  rw [h]; decide

theorem first_no {i : grid0.Coords} (h : (i 1).val ≠ 0) : Scalar.cmpi .eq (BitVec.ofNat 32 (i 1).val) 0#32 ≠ 1#1 := by
  have hall : ∀ n : Fin 16, n.val ≠ 0 → Scalar.cmpi .eq (BitVec.ofNat 32 n.val) 0#32 ≠ 1#1 := by decide +kernel
  exact hall ⟨(i 1).val, (i 1).isLt⟩ h

/-- A running maximum over the blocks of a pass: the first block starts it anew. -/
theorem running_le {i : grid0.Coords} (old blk c : EReal) :
    (Scalar.select (Scalar.cmpi .eq (BitVec.ofNat 32 (i 1).val) 0#32) blk (max old blk) ≤ c)
      ↔ (((i 1).val ≠ 0 → old ≤ c) ∧ blk ≤ c) := by
  by_cases h : (i 1).val = 0
  · rw [first_yes h]; simp [Scalar.select, h]
  · rw [Scalar.select, if_neg (c := _ = 1) (first_no h)]; simp [h]

/-- One step of the running bound of |x|. -/
theorem pay6_le (i : grid0.Coords) (x : FVec Ideal S512x4096 .f32) (old : FVec Ideal S1x128 .f32) (l : Fin 128) (c : EReal) :
    ((k0_pay6 i x old (ix2 0 l) : Ideal .f32) ≤ c)
      ↔ (((i 1).val ≠ 0 → old (ix2 0 l) ≤ c) ∧ ∀ r l, x (ix2 r l) ≤ c ∧ -x (ix2 r l) ≤ c) := by
  have e : k0_pay6 i x old = shapeCast S1x128 (Scalar.select (Scalar.cmpi .eq (BitVec.ofNat 32 (i 1).val) 0#32)
        (broadcast S1x128 (Scalar.maximumf (colMax (k0_pay2 x))
          (Scalar.subf (Scalar.ofBits .f32 0x00000000#32) (colMin (k0_pay3 x)))) : FVec Ideal S1x128 .f32)
        (maximumf old (broadcast S1x128 (Scalar.maximumf (colMax (k0_pay2 x))
          (Scalar.subf (Scalar.ofBits .f32 0x00000000#32) (colMin (k0_pay3 x)))))))
      shapeCasts_S1x128_S1x128 := rfl
  rw [e, running_apply, running_le, max_le_iff, colMax_eq, colMin_eq, fold_max_le, zero_sub_le, le_fold_min]
  refine and_congr_right fun _ => ?_
  simp only [pay2_apply, pay3_apply, fold_max_le, le_fold_min, Prod.forall, EReal.neg_le, forall_and]
  exact and_congr ⟨fun h r l => h r 0 l, fun h r _ l => h r l⟩ ⟨fun h r l => h r 0 l, fun h r _ l => h r l⟩

/-- One step of the running bound of |y|. -/
theorem pay9_le (i : grid0.Coords) (mu inv hi lo : FVec Ideal S512x1 .f32) (old : FVec Ideal S1x128 .f32) (l : Fin 128) (c : EReal) :
    ((k0_pay9 i mu inv hi lo old (ix2 0 l) : Ideal .f32) ≤ c)
      ↔ (((i 1).val ≠ 0 → old (ix2 0 l) ≤ c)
        ∧ ∀ r, max (hi (ix2 r 0) - mu (ix2 r 0)) (mu (ix2 r 0) - lo (ix2 r 0)) * inv (ix2 r 0) ≤ c) := by
  have e : (k0_pay9 i mu inv hi lo old (ix2 0 l) : Ideal .f32)
      = Scalar.select (Scalar.cmpi .eq (BitVec.ofNat 32 (i 1).val) 0#32)
          (Finset.fold max (Ideal.ofBits .f32 0xFF800000#32) (fun k : Fin 512 × Fin 1 =>
            max (hi (ix2 k.1 0) - mu (ix2 k.1 0)) (mu (ix2 k.1 0) - lo (ix2 k.1 0)) * inv (ix2 k.1 0)) Finset.univ)
          (max (old (ix2 0 l)) (Finset.fold max (Ideal.ofBits .f32 0xFF800000#32) (fun k : Fin 512 × Fin 1 =>
            max (hi (ix2 k.1 0) - mu (ix2 k.1 0)) (mu (ix2 k.1 0) - lo (ix2 k.1 0)) * inv (ix2 k.1 0)) Finset.univ)) := by
    pointwise [k0_pay9]
  rw [e, running_le, fold_max_le]
  refine and_congr_right fun _ => ⟨fun h r => h (r, 0), fun h k => h k.1⟩

/-- The step of the quantiser, from a running bound. -/
theorem pay11_apply (v : FVec Ideal S1x128 .f32) (M : EReal) (h : ∀ l c, v (ix2 0 l) ≤ c ↔ M ≤ c) :
    (k0_pay11 v : Ideal .f32) = step M := by
  have e : (k0_pay11 v : Ideal .f32) = max (Ideal.div (Finset.fold max (Ideal.ofBits .f32 0xFF800000#32)
      (fun k : Fin 1 × Fin 128 => v (ix2 0 k.2)) Finset.univ) (Ideal.ofBits .f32 0x42FE0000#32)) (Ideal.ofBits .f32 0x322BCC77#32) := by
    pointwise [k0_pay11]
  rw [e]
  show step _ = step _
  refine congrArg step (eq_of_forall_ge_iff fun c => ?_)
  rw [fold_max_le]
  exact ⟨fun g => (h 0 c).mp (g (0, 0)), fun g k => (h k.2 c).mpr g⟩

theorem pay12_apply (v : FVec Ideal S1x128 .f32) (x : FVec Ideal S512x4096 .f32) (r : Fin 512) (l : Fin 4096) :
    (k0_pay12 v x (ix2 r l) : Ideal .f32) = rnd (Ideal.div (x (ix2 r l)) (k0_pay11 (F := Ideal) v)) := by
  pointwise [k0_pay12]

/-- The means of a block's rows. -/
theorem pay13_apply (v : FVec Ideal S1x128 .f32) (x : FVec Ideal S512x4096 .f32) (r : Fin 512) :
    (k0_pay13 v x (ix2 r 0) : Ideal .f32) = mean (k0_pay11 (F := Ideal) v) (fun l => x (ix2 r l)) := by
  have e : (k0_pay13 v x (ix2 r 0) : Ideal .f32)
      = (∑ l, k0_pay12 v x (ix2 r l)) * k0_pay11 (F := Ideal) v * Ideal.ofBits .f32 0x39800000#32 := by
    pointwise [k0_pay13]
  rw [e]
  simp only [pay12_apply, mean]

/-- The gains of a block's rows. -/
theorem pay14_apply (v : FVec Ideal S1x128 .f32) (x : FVec Ideal S512x4096 .f32) (r : Fin 512) :
    (k0_pay14 v x (ix2 r 0) : Ideal .f32) = gain (spread (k0_pay11 (F := Ideal) v) (fun l => x (ix2 r l))) := by
  have e : (k0_pay14 v x (ix2 r 0) : Ideal .f32)
      = gain (max ((∑ l, k0_pay12 (F := Ideal) v x (ix2 r l) * k0_pay12 (F := Ideal) v x (ix2 r l)) * (k0_pay11 (F := Ideal) v * k0_pay11 (F := Ideal) v)
          * Ideal.ofBits .f32 0x39800000#32 - k0_pay13 (F := Ideal) v x (ix2 r 0) * k0_pay13 (F := Ideal) v x (ix2 r 0)) 0) := by
    pointwise [k0_pay14, gain]
  rw [e]
  simp only [pay12_apply, pay13_apply, spread]

/-- The results of a block, from its rows' means and gains. -/
theorem pay10_apply (v : FVec Ideal S1x128 .f32) (x : FVec Ideal S512x4096 .f32) (mu inv : FVec Ideal S512x1 .f32)
    (g b : FVec Ideal S1x4096 .f32) (r : Fin 512) (l : Fin 4096) :
    (k0_pay10 v x (k0_pay7 mu) (k0_pay8 inv) g b (ix2 r l) : Ideal .f32)
      = min (Ideal.ofBits .f32 0x42FE0000#32) (max (Ideal.ofBits .f32 0xC2FE0000#32)
          (rnd (Ideal.div ((x (ix2 r l) - mu (ix2 r 0)) * inv (ix2 r 0) * g (ix2 0 l) + b (ix2 0 l)) (k0_pay11 (F := Ideal) v))))
        * k0_pay11 (F := Ideal) v := by
  have e : (k0_pay11 v : Ideal .f32) = max (Ideal.div (Finset.fold max (Ideal.ofBits .f32 0xFF800000#32)
      (fun k : Fin 1 × Fin 128 => v (ix2 0 k.2)) Finset.univ) (Ideal.ofBits .f32 0x42FE0000#32)) (Ideal.ofBits .f32 0x322BCC77#32) := by
    pointwise [k0_pay11]
  rw [e]
  pointwise [k0_pay10, k0_pay7, k0_pay8]

end Cert.KernelIdeal.Run
end
-- ==== Proof.Closed.lean ====
module
public import proofs.«01_k».proof.Proof.Block
@[expose] public section
set_option maxRecDepth 16384

/-! The kernel's block of results in closed form: the running bounds are the largest magnitudes of the whole array of
inputs and of the whole array of normalised numbers. -/

noncomputable section
namespace Cert.KernelIdeal.Run
open Idealize.ShloMosaic Idealize.ShloMosaic.TcCoe Idealize.SL.Sem
open Cert.KernelIdeal Cert.KernelIdeal.Gen Cert.KernelIdeal.Rows Cert.Arith

variable (A : FVec Ideal S8192x4096 .f32)

/-- The positions of the array: block, row in the block, lane. -/
abbrev Pos : Type := Fin 16 × Fin 512 × Fin 4096

/-- The input at a position. -/
def X (p : Pos) : EReal := (xb (F := Ideal) A p.1 (ix2 p.2.1 p.2.2) : Ideal .f32)
/-- A row of the input. -/
def row (k : Fin 16) (r : Fin 512) : Fin 4096 → EReal := fun l => X A (k, r, l)
/-- The input's step. -/
def sx : EReal := step (bound (X A))
/-- The normalised number at a position. -/
def Y (p : Pos) : EReal :=
  (X A p - mean (sx A) (row A p.1 p.2.1)) * gain (spread (sx A) (row A p.1 p.2.1))
/-- The step of the normalised numbers. -/
def sy : EReal := step (bound (Y A))

theorem blk_pt (n : ℕ) (hn : n < 16) (q : ℕ) (hq : q < 3) : blk (grid0.coords (pt (16 * q + n))) = (⟨n, hn⟩ : Fin 16) := by
  refine Fin.ext ?_
  show (grid0.coords (pt (16 * q + n)) 1).val = n
  rw [crd1]
  show (16 * q + n) % 48 % 16 = n
  omega

theorem crd_pt (n : ℕ) (hn : n < 16) (q : ℕ) (hq : q < 3) : (grid0.coords (pt (16 * q + n)) 1).val = n :=
  congrArg Fin.val (blk_pt n hn q hq)

/-- The running bound of |x| after block `n`. -/
theorem xacc_le (n : ℕ) (hn : n < 16) (l : Fin 128) (c : EReal) :
    ((xacc (F := Ideal) A n (ix2 0 l) : Ideal .f32) ≤ c) ↔ ∀ p : Pos, p.1.val ≤ n → X A p ≤ c ∧ -X A p ≤ c := by
  induction n with
  | zero =>
    have hb := blk_pt 0 hn 0 (by norm_num)
    have hc := crd_pt 0 hn 0 (by norm_num)
    simp only [Nat.mul_zero, Nat.add_zero] at hb hc
    rw [xacc, pay6_le, hb, hc]
    constructor
    · rintro ⟨-, h⟩ ⟨k, r, l⟩ hk
      obtain rfl : k = ⟨0, hn⟩ := Fin.ext (by simpa using hk)
      exact h r l
    · exact fun h => ⟨fun h0 => absurd rfl h0, fun r l => h (⟨0, hn⟩, r, l) le_rfl⟩
  | succ n ih =>
    have hb := blk_pt (n + 1) hn 0 (by norm_num)
    have hc := crd_pt (n + 1) hn 0 (by norm_num)
    simp only [Nat.mul_zero, Nat.zero_add] at hb hc
    rw [xacc, pay6_le, hb, hc, ih (by omega)]
    constructor
    · rintro ⟨h1, h⟩ ⟨k, r, l⟩ hk
      by_cases hkn : k.val ≤ n
      · exact h1 (by omega) _ hkn
      · obtain rfl : k = ⟨n + 1, hn⟩ := Fin.ext (by show k.val = n + 1; have : k.val ≤ n + 1 := hk; omega)
        exact h r l
    · exact fun h => ⟨fun _ p hp => h p (by omega), fun r l => h (⟨n + 1, hn⟩, r, l) le_rfl⟩

/-- The input's step, as the kernel takes it. -/
theorem step_x : k0_pay11 (F := Ideal) (xacc (F := Ideal) A 15) = sx A :=
  pay11_apply _ _ fun l c => by
    rw [xacc_le A 15 (by norm_num), bound_le]
    exact ⟨fun h p => h p (by have := p.1.isLt; omega), fun h p _ => h p⟩

theorem muB_apply (k : Fin 16) (r : Fin 512) : (muB (F := Ideal) A k (ix2 r 0) : Ideal .f32) = mean (sx A) (row A k r) := by
  rw [muB, pay13_apply, step_x]; rfl

theorem invB_apply (k : Fin 16) (r : Fin 512) : (invB (F := Ideal) A k (ix2 r 0) : Ideal .f32) = gain (spread (sx A) (row A k r)) := by
  rw [invB, pay14_apply, step_x]; rfl

/-- A row's mean is a real number and its gain a positive one. -/
theorem row_real (k : Fin 16) (r : Fin 512) : ∃ μ g : ℝ, 0 < g ∧ mean (sx A) (row A k r) = (μ : EReal)
    ∧ gain (spread (sx A) (row A k r)) = (g : EReal) := by
  obtain ⟨n, μ, v, -, -, -, hm, -, hs, -⟩ := stats (bound (X A)) (row A k r) fun l => le_bound (X A) (k, r, l)
  obtain ⟨g, hg, e⟩ := gain_pos v
  exact ⟨μ, g, hg, hm, by rw [sx, hs, e]⟩

/-- A step of the running bound of |y|. -/
theorem ystep_le (t : Fin cfg0.N) (k : Fin 16) (hk : blk (grid0.coords t) = k) (old : FVec Ideal S1x128 .f32) (l : Fin 128) (c : EReal) :
    ((ystep (F := Ideal) A t old (ix2 0 l) : Ideal .f32) ≤ c)
      ↔ ((k.val ≠ 0 → old (ix2 0 l) ≤ c) ∧ ∀ r l, Y A (k, r, l) ≤ c ∧ -Y A (k, r, l) ≤ c) := by
  have hk' : (grid0.coords t 1).val = k.val := congrArg Fin.val hk
  rw [ystep, pay9_le, hk, hk']
  refine and_congr_right fun _ => forall_congr' fun r => ?_
  obtain ⟨μ, g, hg, hm, hgn⟩ := row_real A k r
  rw [pay4_apply, pay5_apply, pay2_apply, pay3_apply, muB_apply, invB_apply, hm, hgn, row_bound _ μ g hg]
  refine forall_congr' fun l => ?_
  have e : Y A (k, r, l) = (X A (k, r, l) - (μ : EReal)) * (g : EReal) := by rw [Y, hm, hgn]
  rw [e]
  rfl

/-- The running bound of |y| after block `n`. -/
theorem yacc_le (n : ℕ) (hn : n < 16) (l : Fin 128) (c : EReal) :
    ((yacc (F := Ideal) A n (ix2 0 l) : Ideal .f32) ≤ c) ↔ ∀ p : Pos, p.1.val ≤ n → Y A p ≤ c ∧ -Y A p ≤ c := by
  induction n with
  | zero =>
    rw [yacc, ystep_le A (pt 16) ⟨0, hn⟩ (blk_pt 0 hn 1 (by norm_num))]
    constructor
    · rintro ⟨-, h⟩ ⟨k, r, l⟩ hk
      obtain rfl : k = ⟨0, hn⟩ := Fin.ext (by simpa using hk)
      exact h r l
    · exact fun h => ⟨fun h0 => absurd rfl h0, fun r l => h (⟨0, hn⟩, r, l) le_rfl⟩
  | succ n ih =>
    rw [yacc, ystep_le A (pt (16 + (n + 1))) ⟨n + 1, hn⟩ (blk_pt (n + 1) hn 1 (by norm_num)), ih (by omega)]
    constructor
    · rintro ⟨h1, h⟩ ⟨k, r, l⟩ hk
      by_cases hkn : k.val ≤ n
      · exact h1 (Nat.succ_ne_zero n) _ hkn
      · obtain rfl : k = ⟨n + 1, hn⟩ := Fin.ext (by show k.val = n + 1; have : k.val ≤ n + 1 := hk; omega)
        exact h r l
    · exact fun h => ⟨fun _ p hp => h p (by omega), fun r l => h (⟨n + 1, hn⟩, r, l) le_rfl⟩

/-- The step of the normalised numbers, as the kernel takes it. -/
theorem step_y : k0_pay11 (F := Ideal) (yacc (F := Ideal) A 15) = sy A :=
  pay11_apply _ _ fun l c => by
    rw [yacc_le A 15 (by norm_num), bound_le]
    exact ⟨fun h p => h p (by have := p.1.isLt; omega), fun h p _ => h p⟩

/-- A result of the kernel: the normalised number quantised with the step of all normalised numbers. -/
theorem outB_apply (g b : FVec Ideal S1x4096 .f32) (hg : ∀ l, g (ix2 0 l) = 1) (hb : ∀ l, b (ix2 0 l) = 0)
    (k : Fin 16) (r : Fin 512) (l : Fin 4096) :
    (outB (F := Ideal) A g b k (ix2 r l) : Ideal .f32)
      = min (Ideal.ofBits .f32 0x42FE0000#32) (max (Ideal.ofBits .f32 0xC2FE0000#32)
          (rnd (Ideal.div (Y A (k, r, l)) (sy A)))) * sy A := by
  rw [outB, pay10_apply, step_y, hg, hb, mul_one, add_zero, muB_apply, invB_apply]
  rfl

end Cert.KernelIdeal.Run
end
-- ==== Proof.Root.lean ====
module
public import proofs.«01_k».proof.ReferenceIdeal
public import Mathlib.Tactic.IntervalCases
public import Mathlib.Tactic.Ring
@[expose] public section
set_option maxRecDepth 16384

/-! The reference's integer square root on 32-bit words. The table gives a root of the leading eight bits of a
normalised number; shifting it back and one comparison make it the nearest integer to the square root. -/

namespace Cert.Root
open Idealize.ShloMosaic Cert.ReferenceIdeal

/-- Half of a word, rounded toward minus infinity. -/
def half (m : BitVec 32) : BitVec 32 :=
  Scalar.select
    (IntOp.andi
      (IntOp.cmpi .ne (if m = 0 then 0 else if m.msb = true then -1 else 1 : BitVec 32)
        (if (2#32) = 0 then 0 else if (2#32).msb = true then -1 else 1 : BitVec 32))
      (IntOp.cmpi .ne (IntOp.remsi .host m 2#32) 0#32))
    (IntOp.subi (IntOp.divsi .host m 2#32) 1#32)
    (IntOp.divsi .host m 2#32)

/-- The table's index: the number shifted until its leading bits fill sixteen, then its upper byte. -/
def slot (d k : BitVec 32) : BitVec 32 :=
  IntOp.andi (IntOp.shrsi .host (IntOp.shli .host d (IntOp.muli (IntOp.subi 7#32 k) 2#32)) 8#32) 255#32

/-- The index as the lookup takes it: a negative one counts from the end. -/
def wrap (n i : BitVec 32) : BitVec 32 :=
  Scalar.select (IntOp.cmpi .slt i 0#32) (IntOp.addi i n) i

/-- The last correction: one more when the number lies above `q * q + q`. -/
def correct (d q : BitVec 32) : BitVec 32 :=
  Scalar.select (IntOp.cmpi .sgt d (IntOp.addi (IntOp.muli q q) q)) (IntOp.addi q 1#32) q

theorem half_eq (e : Fin 16) : half (BitVec.ofNat 32 e) = BitVec.ofNat 32 (e / 2) := by
  revert e; decide +kernel

theorem wrap_eq (n : BitVec 32) {i : ℕ} (hi : i < 256) : wrap n (BitVec.ofNat 32 i) = BitVec.ofNat 32 i := by
  have h : ∀ j : Fin 256, (BitVec.ofNat 32 j).slt 0#32 = false := by decide +kernel
  have := h ⟨i, hi⟩
  simp only at this
  simp [wrap, Scalar.select, IntOp.cmpi, this]

/-- The index of a number between two consecutive powers of four, in naturals. -/
theorem slot_eq (D : ℕ) (k : Fin 8) (hD : D < 4 ^ (k.val + 1)) :
    slot (BitVec.ofNat 32 D) (BitVec.ofNat 32 k) = BitVec.ofNat 32 (D * 4 ^ (7 - k.val) / 256) := by
  have hamt : ∀ k : Fin 8, IntOp.muli (IntOp.subi 7#32 (BitVec.ofNat 32 k)) 2#32 = BitVec.ofNat 32 (2 * (7 - k.val)) := by
    decide +kernel
  have hsmall : D * 4 ^ (7 - k.val) < 65536 := by
    have h1 : 4 ^ (k.val + 1) * 4 ^ (7 - k.val) = 65536 := by
      rw [← pow_add, show k.val + 1 + (7 - k.val) = 8 by omega]; norm_num
    calc D * 4 ^ (7 - k.val) < 4 ^ (k.val + 1) * 4 ^ (7 - k.val) := by
          exact Nat.mul_lt_mul_of_pos_right hD (by positivity)
      _ = 65536 := h1
  have hshl : IntOp.shli .host (BitVec.ofNat 32 D) (BitVec.ofNat 32 (2 * (7 - k.val)))
      = BitVec.ofNat 32 (D * 4 ^ (7 - k.val)) := by
    have hb : (BitVec.ofNat 32 (2 * (7 - k.val))).toNat = 2 * (7 - k.val) := by
      rw [BitVec.toNat_ofNat]; exact Nat.mod_eq_of_lt (by omega)
    unfold IntOp.shli
    rw [if_pos (by rw [hb]; omega)]
    apply BitVec.eq_of_toNat_eq
    simp only [BitVec.shiftLeft_eq', BitVec.toNat_shiftLeft, hb, BitVec.toNat_ofNat, Nat.shiftLeft_eq]
    rw [pow_mul]
    norm_num [Nat.mul_mod]
  unfold slot
  rw [hamt, hshl]
  generalize D * 4 ^ (7 - k.val) = E at hsmall
  have hE : (BitVec.ofNat 32 E).toNat = E := by
    rw [BitVec.toNat_ofNat]; exact Nat.mod_eq_of_lt (by omega)
  have hm : (BitVec.ofNat 32 E).msb = false := by
    rw [BitVec.msb_eq_false_iff_two_mul_lt, hE]; omega
  unfold IntOp.shrsi IntOp.andi
  rw [if_pos (by decide)]
  apply BitVec.eq_of_toNat_eq
  rw [BitVec.sshiftRight', BitVec.sshiftRight_eq_of_msb_false hm]
  simp only [BitVec.toNat_and, BitVec.toNat_ushiftRight, hE, BitVec.toNat_ofNat, Nat.shiftRight_eq_div_pow]
  rw [show (8 % 2 ^ 32 : ℕ) = 8 by norm_num, show (255 % 2 ^ 32 : ℕ) = 2 ^ 8 - 1 by norm_num, Nat.and_two_pow_sub_one_eq_mod]
  omega

/-- The index of a number between two consecutive powers of four lies in the table's upper three quarters. -/
theorem slot_range (D : ℕ) (k : Fin 8) (h₁ : 4 ^ k.val ≤ D) (h₂ : D < 4 ^ (k.val + 1)) :
    64 ≤ D * 4 ^ (7 - k.val) / 256 ∧ D * 4 ^ (7 - k.val) / 256 < 256 := by
  fin_cases k <;> simp at h₁ h₂ ⊢ <;> omega

/-- What the table promises, for every index in use and every shift back. -/
theorem table (i : Fin 256) (t : Fin 8) (hi : 64 ≤ i.val) :
    let q := (IntOp.shrsi .host (lit0 i) (BitVec.ofNat 32 t)).toNat
    1 ≤ q ∧ q < 256 ∧ 4 ^ t.val * (q * q - q) < 256 * i.val
      ∧ 256 * i.val + 255 < ((q + 1) * (q + 1) + (q + 1) + 1) * 4 ^ t.val := by
  revert i t; decide +kernel

/-- After the correction the word is the nearest integer to the square root. -/
theorem correct_eq (D : ℕ) (q : BitVec 32) (hD : D < 65536) (h1 : 1 ≤ q.toNat) (hq : q.toNat < 256)
    (hlo : q.toNat * q.toNat - q.toNat < D)
    (hhi : D ≤ (q.toNat + 1) * (q.toNat + 1) + (q.toNat + 1)) :
    ∃ r : ℕ, 1 ≤ r ∧ (correct (BitVec.ofNat 32 D) q).toInt = r ∧ r * r < D + r ∧ D ≤ r * r + r := by
  obtain ⟨n, rfl⟩ : ∃ n : ℕ, q = BitVec.ofNat 32 n := ⟨q.toNat, by simp⟩
  have hn : n % 2 ^ 32 < 256 := by simpa using hq
  obtain ⟨n, hn', hnn⟩ : ∃ m : ℕ, m < 256 ∧ BitVec.ofNat 32 n = BitVec.ofNat 32 m :=
    ⟨n % 2 ^ 32, hn, by apply BitVec.eq_of_toNat_eq; simp⟩
  rw [hnn] at h1 hq hlo hhi ⊢
  have e : (BitVec.ofNat 32 n).toNat = n := by rw [BitVec.toNat_ofNat]; exact Nat.mod_eq_of_lt (by omega)
  rw [e] at h1 hlo hhi
  have hsq : n * n ≤ 255 * 255 := Nat.mul_le_mul (by omega) (by omega)
  have hint : ∀ a : ℕ, a < 100000 → (BitVec.ofNat 32 a).toInt = a := by
    intro a ha
    rw [BitVec.toInt_eq_toNat_of_lt (by rw [BitVec.toNat_ofNat]; omega), BitVec.toNat_ofNat,
      Nat.mod_eq_of_lt (by omega)]
  have hw : IntOp.addi (IntOp.muli (BitVec.ofNat 32 n) (BitVec.ofNat 32 n)) (BitVec.ofNat 32 n)
      = BitVec.ofNat 32 (n * n + n) := by
    simp [IntOp.addi, IntOp.muli, BitVec.ofNat_add, BitVec.ofNat_mul]
  have hw1 : IntOp.addi (BitVec.ofNat 32 n) 1#32 = BitVec.ofNat 32 (n + 1) := by
    simp [IntOp.addi, BitVec.ofNat_add]
  have hs : (BitVec.ofNat 32 (n * n + n)).slt (BitVec.ofNat 32 D) = decide (n * n + n < D) := by
    rw [BitVec.slt, hint _ (by omega), hint _ (by omega)]
    exact decide_eq_decide.mpr (by exact_mod_cast Iff.rfl)
  unfold correct
  rw [hw, hw1]
  simp only [IntOp.cmpi, hs, Scalar.select]
  have hnn1 : n ≤ n * n := Nat.le_mul_of_pos_left n (by omega)
  by_cases h : n * n + n < D
  · refine ⟨n + 1, by omega, ?_, ?_, hhi⟩
    · simp only [h, decide_true, BitVec.ofBool_true, if_true]
      exact hint _ (by omega)
    · have : (n + 1) * (n + 1) = n * n + n + n + 1 := by ring
      omega
  · refine ⟨n, h1, ?_, by omega, by omega⟩
    simp only [h, decide_false, BitVec.ofBool_false]
    exact hint n (by omega)

/-- The whole root: the table's entry shifted back, then the correction. -/
theorem root (D : ℕ) (k : Fin 8) (hD : D < 65536) (h₁ : 4 ^ k.val ≤ D) (h₂ : D < 4 ^ (k.val + 1))
    (i : Fin 256) (hi : i.val = D * 4 ^ (7 - k.val) / 256) :
    ∃ r : ℕ, 1 ≤ r ∧ (correct (BitVec.ofNat 32 D)
        (IntOp.shrsi .host (lit0 i) (IntOp.subi 7#32 (BitVec.ofNat 32 k)))).toInt = r
      ∧ r * r < D + r ∧ D ≤ r * r + r := by
  have hsub : ∀ k t : Fin 8, t.val = 7 - k.val →
      IntOp.subi 7#32 (BitVec.ofNat 32 k) = BitVec.ofNat 32 t.val := by decide +kernel
  obtain ⟨t, ht⟩ : ∃ t : Fin 8, t.val = 7 - k.val := ⟨⟨7 - k.val, by omega⟩, rfl⟩
  have hr := slot_range D k h₁ h₂
  rw [hsub k t ht]
  rw [← ht] at hr hi
  obtain ⟨q1, q2, q3, q4⟩ := table i t (by rw [hi]; exact hr.1)
  have hdiv : 256 * i.val ≤ D * 4 ^ t.val ∧ D * 4 ^ t.val ≤ 256 * i.val + 255 := by omega
  refine correct_eq D _ hD q1 q2 ?_ ?_
  · exact Nat.lt_of_mul_lt_mul_left (a := 4 ^ t.val) (by rw [Nat.mul_comm _ D]; exact lt_of_lt_of_le q3 hdiv.1)
  · exact Nat.lt_succ_iff.mp (Nat.lt_of_mul_lt_mul_right (a := 4 ^ t.val) (lt_of_le_of_lt hdiv.2 q4))

/-- The two four-bit digits of a magnitude, and their product, as words. -/
theorem digits (N : Fin 128) :
    IntOp.shrsi .host (BitVec.ofNat 32 N.val) 4#32 = BitVec.ofNat 32 (N.val / 16)
    ∧ IntOp.andi (BitVec.ofNat 32 N.val) 15#32 = BitVec.ofNat 32 (N.val % 16)
    ∧ (IntOp.muli (BitVec.ofNat 32 (N.val / 16)) (BitVec.ofNat 32 (N.val % 16))).toInt
        = ((N.val / 16 * (N.val % 16) : ℕ) : ℤ) := by
  revert N; decide +kernel

/-- A digit is its own index, and reads back as itself. -/
theorem digit_word (h : Fin 16) :
    Scalar.select (IntOp.cmpi .slt (BitVec.ofNat 32 h.val) 0#32) (IntOp.addi (BitVec.ofNat 32 h.val) 16#32)
      (BitVec.ofNat 32 h.val) = BitVec.ofNat 32 h.val
    ∧ min (BitVec.ofNat 32 h.val).toInt.toNat 15 = h.val ∧ (BitVec.ofNat 32 h.val).toInt = (h.val : ℤ) := by
  revert h; decide +kernel

/-- The square from the two digits. -/
theorem digits_square (N : ℕ) :
    N / 16 * (N / 16) * 256 + N / 16 * (N % 16) * 32 + N % 16 * (N % 16) = N * N := by
  have h := Nat.div_add_mod N 16
  generalize N / 16 = a at h ⊢
  generalize N % 16 = b at h ⊢
  subst h
  ring

/-- Counting the powers of two (from the first to the fifteenth) that do not exceed a number gives its highest bit. -/
theorem count_powers (e : Fin 16) (D : ℕ) (h₁ : 2 ^ e.val ≤ D) (h₂ : D < 2 ^ (e.val + 1)) :
    (Finset.univ.filter fun k : Fin 15 => 2 ^ (k.val + 1) ≤ D).card = e.val := by
  have hset : (Finset.univ.filter fun k : Fin 15 => 2 ^ (k.val + 1) ≤ D)
      = Finset.univ.filter fun k : Fin 15 => k.val < e.val := by
    refine Finset.filter_congr fun k _ => ⟨fun h => ?_, fun h => ?_⟩
    · have : k.val + 1 < e.val + 1 := (Nat.pow_lt_pow_iff_right (by norm_num : 1 < 2)).mp (lt_of_le_of_lt h h₂)
      omega
    · exact le_trans (Nat.pow_le_pow_right (by norm_num) (by omega)) h₁
  rw [hset]
  have hcount : ∀ e : Fin 16, (Finset.univ.filter fun k : Fin 15 => k.val < e.val).card = e.val := by decide +kernel
  exact hcount e

end Cert.Root
end
-- ==== Proof.Gather.lean ====
module
public import Idealize.ShloMosaic.Lib.Pointwise
@[expose] public section
set_option maxRecDepth 16384

/-! Looking up a table of `N` entries at one index per position of a rank-3 array. -/

noncomputable section
namespace Cert.Gather
open Idealize.ShloMosaic

/-- The dimension numbers of such a lookup. -/
abbrev lookup (N A B C : ℕ)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- The lookup at a position is the entry its index names, the index held inside the table. -/
theorem lookup_apply {α : Type} {N A B C : ℕ}
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ 32) (a : Fin A) (b : Fin B) (c : Fin C)
    (w : BitVec 32) (hw : idx (ix4 a b c 0) = w) (j : Fin N) (hj : min w.toInt.toNat (N - 1) = j.val) :
    Host.gather (lookup N A B C wf) x idx (ix3 a b c) = x (ix1 j) := by
  have h0 : (0 : Fin 1) ∈ (lookup N A B C wf).startIndexMap := List.mem_singleton.mpr rfl
  have hpos : (lookup N A B C wf).siIdx (ix3 a b c)
      ⟨List.idxOf (0 : Fin 1) (lookup N A B C wf).startIndexMap, List.idxOf_lt_length_iff.2 h0⟩ = ix4 a b c 0 :=
    funext fun d => Fin.ext <| match d with
      | ⟨0, _⟩ => rfl
      | ⟨1, _⟩ => rfl
      | ⟨2, _⟩ => rfl
      | ⟨3, _⟩ => rfl
  have hstart : (lookup N A B C wf).start (ix3 a b c) idx 0 = j.val := by
    unfold GatherDims.start
    rw [dif_pos h0, hpos, hw]
    exact hj
  refine congrArg x (funext fun d => ?_)
  obtain rfl : d = 0 := Subsingleton.elim _ _
  refine Fin.ext ?_
  show (lookup N A B C wf).start (ix3 a b c) idx 0 + (lookup N A B C wf).batchCoord (ix3 a b c) 0
    + (lookup N A B C wf).offCoord (ix3 a b c) 0 = j.val
  have hk : (0 : Fin 1) ∉ (lookup N A B C wf).sKept := fun h =>
    ((GatherDims.mem_sKept _ _).mp h).1 (List.mem_singleton.mpr rfl)
  rw [hstart, GatherDims.batchCoord_eq_zero _ _ _ List.not_mem_nil, GatherDims.offCoord_eq_zero _ _ _ hk]
  rfl

end Cert.Gather
end
-- ==== Proof.Codes.lean ====
module
public import proofs.«01_k».proof.Proof.Gen.ReferenceIdeal.Run
public import proofs.«01_k».proof.Proof.Stats
public import proofs.«01_k».proof.Proof.Extrema
public import proofs.«01_k».proof.Proof.Root
public import proofs.«01_k».proof.Proof.Gather
public import Idealize.ShloMosaic.Lib.Pointwise
@[expose] public section
set_option maxRecDepth 16384

/-! The reference's first half, read entry by entry: the step of the inputs, the codes, the means, and the variances
through the table of sixteen squares. -/

noncomputable section
namespace Cert.ReferenceIdeal.Read
open Idealize.ShloMosaic Idealize.ShloMosaic.TcCoe Idealize.SL.Sem
open Cert.ReferenceIdeal Cert.ReferenceIdeal.Gen Cert.ReferenceIdeal.Value Cert.Arith Cert.Root

local instance : Cert.ReferenceIdeal.Facts := Cert.ReferenceIdeal.Gen.facts

variable (V0 : Valuation τ sig (Elt Ideal))

/-- The positions of the reference's array: batch, row, lane. -/
abbrev Pos : Type := Fin 4 × Fin 2048 × Fin 4096

/-- An array of three axes, at a position. -/
def at3 (x : FVec Ideal S4x2048x4096 .f32) (p : Pos) : EReal := x (ix3 p.1 p.2.1 p.2.2)

/-- The input array. -/
def arg0 : FVec Ideal S4x2048x4096 .f32 := V0 (Proc.devRef .tc main_arg0)

/-- The stages of the reference at their types: the step, the codes, the means, the variances, the table of squares,
and the two digits of each magnitude. -/
abbrev stepV : EReal := res_main_v5 V0 ix0
abbrev codeV : FVec Ideal S4x2048x4096 .f32 := res_main_v11 V0
abbrev meanV (b : Fin 4) (r : Fin 2048) : EReal := res_main_v50 V0 (ix3 b r 0)
abbrev varV (b : Fin 4) (r : Fin 2048) : EReal := res_main_v56 V0 (ix3 b r 0)
abbrev squares : FVec Ideal S16 .f32 := res_main_v1 V0
abbrev hiV : IVec S4x2048x4096 32 := res_main_v19 V0
abbrev loV : IVec S4x2048x4096 32 := res_main_v21 V0

/-- A row of the input. -/
def row (b : Fin 4) (r : Fin 2048) : Fin 4096 → EReal := fun l => at3 (arg0 V0) (b, r, l)

/-- The largest magnitude of a whole array, as the reference folds it. -/
theorem absmax (x : FVec Ideal S4x2048x4096 .f32) (S : Finset S4x2048x4096.Idx) (hS : ∀ i, i ∈ S) :
    Finset.fold max (Ideal.ofBits .f32 0xFF800000#32) (fun i => FloatOps.absf (x i)) S = bound (at3 x) := by
  refine eq_bound _ fun c => ?_
  rw [Finset.fold_max_le, c_bot]
  have ha : ∀ y : Ideal .f32, (FloatOps.absf y : Ideal .f32) = max y (-y) := fun _ => rfl
  simp only [bot_le, true_and, ha, max_le_iff]
  constructor
  · exact fun h p => h _ (hS _)
  · intro h i _
    rw [eq_ix3 i]
    exact h (i 0, i 1, i 2)

theorem step_apply : stepV V0 = step (bound (at3 (arg0 V0))) := by
  unfold stepV
  pointwise [res_main_v5]
  exact congrArg step (absmax (arg0 V0) _ fun i => Finset.mem_filter.mpr ⟨Finset.mem_univ _, funext fun a => a.elim0⟩)

/-- The codes. -/
theorem code_apply (b : Fin 4) (r : Fin 2048) (l : Fin 4096) :
    codeV V0 (ix3 b r l) = clipped (Ideal.div (row V0 b r l) (step (bound (at3 (arg0 V0))))) := by
  rw [← step_apply]
  pointwise [res_main_v11, res_main_v7, row, at3, arg0, clipped]
  rfl

theorem mean_apply (b : Fin 4) (r : Fin 2048) :
    meanV V0 b r = meanR (step (bound (at3 (arg0 V0)))) (row V0 b r) := by
  have e : meanV V0 b r
      = Ideal.div (∑ l, codeV V0 (ix3 b r l) * stepV V0) (Ideal.ofBits .f32 0x45800000#32) := by
    unfold meanV
    pointwise [res_main_v50]
  rw [e]
  simp only [code_apply, step_apply, meanR]

/-- The table of squares. -/
theorem square_apply (h : Fin 16) : squares V0 (ix1 h) = (((h.val : ℝ) * (h.val : ℝ) : ℝ) : EReal) := by
  have e : squares V0 (ix1 h) = FloatOps.sitofp (F := Ideal) .f32 (BitVec.ofNat 32 h.val)
      * FloatOps.sitofp (F := Ideal) .f32 (BitVec.ofNat 32 h.val) := by
    pointwise [res_main_v1, res_main_v0]
  rw [e]
  show (((BitVec.ofNat 32 h.val).toInt : ℝ) : EReal) * (((BitVec.ofNat 32 h.val).toInt : ℝ) : EReal) = _
  rw [(digit_word h).2.2, ← EReal.coe_mul]
  norm_cast

/-- The word of a magnitude. -/
theorem word_of_int (z : ℤ) (h : 0 ≤ z) (h' : z ≤ 65535) :
    (FloatOps.fptosi (F := Ideal) (φ := .f32) 32 ((z : ℝ) : EReal) : BitVec 32) = BitVec.ofNat 32 z.toNat := by
  show BitVec.ofInt 32 (Ideal.toIntClamped _ _ ((z : ℝ) : EReal)) = _
  rw [Ideal.toIntClamped_coe, if_pos (by exact_mod_cast h), Int.floor_intCast]
  rw [show max (-((2 ^ (32 - 1) : ℕ) : ℤ)) (min (((2 ^ (32 - 1) : ℕ) : ℤ) - 1) z) = z by norm_num; omega]
  conv_lhs => rw [← Int.toNat_of_nonneg h]
  exact BitVec.ofInt_natCast _ _

theorem abs_int (n : ℤ) : FloatOps.absf (F := Ideal) (φ := .f32) ((n : ℝ) : EReal) = (((n.natAbs : ℤ) : ℝ) : EReal) := by
  show max ((n : ℝ) : EReal) (-((n : ℝ) : EReal)) = _
  rw [← EReal.coe_neg, ← EReal.coe_strictMono.monotone.map_max]
  congr 1
  rw [Int.natCast_natAbs, Int.cast_abs]
  rfl

theorem wrapped_apply (i : IVec S4x2048x4096 32) (b : Fin 4) (r : Fin 2048) (l : Fin 4096) :
    broadcastInDim S4x2048x4096x1 ![0, 1, 2] bcast_S4x2048x4096_S4x2048x4096x1_0_1_2
      (select (cmpi .slt i (broadcastInDim S4x2048x4096 ![] bcast_S_S4x2048x4096 (constantI S_ 32 0#32)))
        (addi i (broadcastInDim S4x2048x4096 ![] bcast_S_S4x2048x4096 (constantI S_ 32 16#32))) i) (ix4 b r l 0)
      = wrap 16#32 (i (ix3 b r l)) := by
  pointwise [wrap]

/-- One lookup in the table of squares. -/
theorem lookup_square (i : IVec S4x2048x4096 32) (b : Fin 4) (r : Fin 2048) (l : Fin 4096) (h : Fin 16)
    (hi : i (ix3 b r l) = BitVec.ofNat 32 h.val) :
    Host.gather gather_S16_S4x2048x4096x1_S4x2048x4096_n_0_n_n_0_3_1 (squares V0)
      (broadcastInDim S4x2048x4096x1 ![0, 1, 2] bcast_S4x2048x4096_S4x2048x4096x1_0_1_2
        (select (cmpi .slt i (broadcastInDim S4x2048x4096 ![] bcast_S_S4x2048x4096 (constantI S_ 32 0#32)))
          (addi i (broadcastInDim S4x2048x4096 ![] bcast_S_S4x2048x4096 (constantI S_ 32 16#32))) i)) (ix3 b r l)
      = (((h.val : ℝ) * (h.val : ℝ) : ℝ) : EReal) := by
  refine (Gather.lookup_apply _ _ _ b r l _ (wrapped_apply i b r l) h ?_).trans (square_apply V0 h)
  rw [hi]
  unfold wrap
  rw [(digit_word h).1]
  exact (digit_word h).2.1

/-- A code's square, as the reference puts it together. -/
def sq (b : Fin 4) (r : Fin 2048) (l : Fin 4096) : EReal :=
  Host.gather gather_S16_S4x2048x4096x1_S4x2048x4096_n_0_n_n_0_3_1 (squares V0)
      (broadcastInDim S4x2048x4096x1 ![0, 1, 2] bcast_S4x2048x4096_S4x2048x4096x1_0_1_2
        (select (cmpi .slt (hiV V0) (broadcastInDim S4x2048x4096 ![] bcast_S_S4x2048x4096 (constantI S_ 32 0#32)))
          (addi (hiV V0) (broadcastInDim S4x2048x4096 ![] bcast_S_S4x2048x4096 (constantI S_ 32 16#32)))
          (hiV V0))) (ix3 b r l) * Ideal.ofBits .f32 0x43800000#32
    + FloatOps.sitofp (F := Ideal) .f32 (IntOp.muli (hiV V0 (ix3 b r l)) (loV V0 (ix3 b r l)))
        * Ideal.ofBits .f32 0x42000000#32
    + Host.gather gather_S16_S4x2048x4096x1_S4x2048x4096_n_0_n_n_0_3_1 (squares V0)
      (broadcastInDim S4x2048x4096x1 ![0, 1, 2] bcast_S4x2048x4096_S4x2048x4096x1_0_1_2
        (select (cmpi .slt (loV V0) (broadcastInDim S4x2048x4096 ![] bcast_S_S4x2048x4096 (constantI S_ 32 0#32)))
          (addi (loV V0) (broadcastInDim S4x2048x4096 ![] bcast_S_S4x2048x4096 (constantI S_ 32 16#32)))
          (loV V0))) (ix3 b r l)

theorem spread_apply (b : Fin 4) (r : Fin 2048) :
    varV V0 b r = spreadR (step (bound (at3 (arg0 V0)))) (row V0 b r) (sq V0 b r) := by
  have e : varV V0 b r
      = max (Ideal.div (∑ l, sq V0 b r l * (stepV V0 * stepV V0)) (Ideal.ofBits .f32 0x45800000#32)
          - meanV V0 b r * meanV V0 b r) 0 := by
    unfold sq varV
    pointwise [res_main_v56]
  rw [e, mean_apply, step_apply, spreadR]

/-- The square put together from the table is the square. -/
theorem sq_eq (b : Fin 4) (r : Fin 2048) (l : Fin 4096) (n : ℤ) (hn : -127 ≤ n ∧ n ≤ 127)
    (h : codeV V0 (ix3 b r l) = ((n : ℝ) : EReal)) : sq V0 b r l = (((n : ℝ) * (n : ℝ) : ℝ) : EReal) := by
  have e17 : res_main_v17 V0 (ix3 b r l) = FloatOps.fptosi (F := Ideal) (φ := .f32) 32 (FloatOps.absf (F := Ideal) (φ := .f32) (codeV V0 (ix3 b r l))) := by
    pointwise [res_main_v17]
  have hN : n.natAbs < 128 := by omega
  have w17 : res_main_v17 V0 (ix3 b r l) = BitVec.ofNat 32 n.natAbs := by
    rw [e17, h, abs_int, word_of_int _ (by omega) (by omega)]
    rfl
  obtain ⟨d1, d2, d3⟩ := digits ⟨n.natAbs, hN⟩
  have e19 : hiV V0 (ix3 b r l) = BitVec.ofNat 32 (n.natAbs / 16) := by
    have : hiV V0 (ix3 b r l) = IntOp.shrsi .host (res_main_v17 V0 (ix3 b r l)) 4#32 := by
      pointwise [res_main_v19]
    rw [this, w17]; exact d1
  have e21 : loV V0 (ix3 b r l) = BitVec.ofNat 32 (n.natAbs % 16) := by
    have : loV V0 (ix3 b r l) = IntOp.andi (res_main_v17 V0 (ix3 b r l)) 15#32 := by
      pointwise [res_main_v21]
    rw [this, w17]; exact d2
  have g1 := lookup_square V0 (hiV V0) b r l ⟨n.natAbs / 16, by omega⟩ e19
  have g2 := lookup_square V0 (loV V0) b r l ⟨n.natAbs % 16, by omega⟩ e21
  have hsit : (FloatOps.sitofp (F := Ideal) .f32 (IntOp.muli (BitVec.ofNat 32 (n.natAbs / 16)) (BitVec.ofNat 32 (n.natAbs % 16))) : EReal)
      = (((n.natAbs / 16 * (n.natAbs % 16) : ℕ) : ℝ) : EReal) := by
    show (((IntOp.muli (BitVec.ofNat 32 (n.natAbs / 16)) (BitVec.ofNat 32 (n.natAbs % 16))).toInt : ℝ) : EReal) = _
    rw [d3, Int.cast_natCast]
  unfold sq
  rw [g1, g2, e19, e21, hsit, c_256, c_32, ← EReal.coe_mul, ← EReal.coe_mul, ← EReal.coe_add, ← EReal.coe_add]
  congr 1
  have hq : ((n.natAbs * n.natAbs : ℕ) : ℝ) = (n : ℝ) * n := by
    rw [← Int.cast_natCast, Int.natCast_mul, Int.natAbs_mul_self']
    push_cast; rfl
  rw [← hq, ← digits_square n.natAbs]
  push_cast
  ring

end Cert.ReferenceIdeal.Read
end
-- ==== Proof.Gain.lean ====
module
public import proofs.«01_k».proof.Proof.Codes
public import Idealize.ShloMosaic.Lib.IndicatorCount
@[expose] public section
set_option maxRecDepth 16384

/-! The reference's reciprocal deviation: the integer square root through the table of 256 roots, read at one row. -/

noncomputable section
namespace Cert.ReferenceIdeal.Read
open Idealize.ShloMosaic Idealize.ShloMosaic.TcCoe Idealize.SL.Sem
open Cert.ReferenceIdeal Cert.ReferenceIdeal.Gen Cert.ReferenceIdeal.Value Cert.Arith Cert.Root

local instance : Cert.ReferenceIdeal.Facts := Cert.ReferenceIdeal.Gen.facts

variable (V0 : Valuation τ sig (Elt Ideal))

/-- The stages of the root at their types: the number, its highest bit, half of that, the table's index, the root
before its correction. -/
abbrev numV : IVec S4x2048x1 32 := res_main_v61 V0
abbrev topV : IVec S4x2048x1 32 := res_main_v73 V0
abbrev halfV : IVec S4x2048x1 32 := res_main_v74 V0
abbrev slotV : IVec S4x2048x1 32 := res_main_v83 V0
abbrev rootV : IVec S4x2048x1 32 := res_main_v93 V0

theorem num_apply (b : Fin 4) (r : Fin 2048) (D : ℕ) (hD : D ≤ 65535)
    (h : min (Ideal.ofBits .f32 0x477FFF00#32) (max 1 (varV V0 b r + (rnd (varV V0 b r) - varV V0 b r))) = ((D : ℝ) : EReal)) :
    numV V0 (ix3 b r 0) = BitVec.ofNat 32 D := by
  have e : numV V0 (ix3 b r 0) = FloatOps.fptosi (F := Ideal) (φ := .f32) 32 (min (Ideal.ofBits .f32 0x477FFF00#32)
      (max (Ideal.ofBits .f32 0x3F800000#32) (varV V0 b r + (rnd (varV V0 b r) - varV V0 b r)))) := by
    unfold numV
    pointwise [res_main_v61]
    rw [← EReal.coe_one, ← c_1]
    rfl
  rw [e, c_1, EReal.coe_one, h]
  exact word_of_int D (by omega) (by omega)

theorem nat_word (a : ℕ) (ha : a < 2 ^ 31) : (BitVec.ofNat 32 a).toInt = a := by
  rw [BitVec.toInt_eq_toNat_of_lt (by rw [BitVec.toNat_ofNat]; omega), BitVec.toNat_ofNat, Nat.mod_eq_of_lt (by omega)]

/-- One of the fifteen comparisons. -/
def reaches (d : BitVec 32) (k : Fin 15) : BitVec 1 :=
  IntOp.cmpi .sge d (IntOp.shli .host 1#32 (IntOp.addi 1#32 (BitVec.ofNat 32 k.val)))

theorem reaches_iff (D : ℕ) (hD : D ≤ 65535) (k : Fin 15) : reaches (BitVec.ofNat 32 D) k = 1#1 ↔ 2 ^ (k.val + 1) ≤ D := by
  have hp : ∀ k : Fin 15, IntOp.shli .host 1#32 (IntOp.addi 1#32 (BitVec.ofNat 32 k.val)) = BitVec.ofNat 32 (2 ^ (k.val + 1))
      ∧ 2 ^ (k.val + 1) < 2 ^ 31 := by decide +kernel
  unfold reaches
  rw [(hp k).1]
  show BitVec.ofBool ((BitVec.ofNat 32 (2 ^ (k.val + 1))).sle (BitVec.ofNat 32 D)) = 1#1 ↔ _
  rw [BitVec.sle, nat_word _ (hp k).2, nat_word _ (by omega)]
  by_cases hc : 2 ^ (k.val + 1) ≤ D
  · have : ((2 ^ (k.val + 1) : ℕ) : ℤ) ≤ (D : ℤ) := by exact_mod_cast hc
    simp only [decide_eq_true this, hc]
    decide
  · have : ¬ ((2 ^ (k.val + 1) : ℕ) : ℤ) ≤ (D : ℤ) := by exact_mod_cast hc
    simp only [decide_eq_false this, hc]
    decide

/-- The number's highest bit, counted. -/
theorem top_apply (b : Fin 4) (r : Fin 2048) (D : ℕ) (hD : D ≤ 65535) (hn : numV V0 (ix3 b r 0) = BitVec.ofNat 32 D)
    (e : Fin 16) (h₁ : 2 ^ e.val ≤ D) (h₂ : D < 2 ^ (e.val + 1)) : topV V0 (ix3 b r 0) = BitVec.ofNat 32 e.val := by
  unfold topV
  have hred : S4x2048x1x15.Reduces [3] S4x2048x1 := by decide
  rw [res_main_v73, Host.reduce_eq_fold_single IntOp.addi _ _ _ hred]
  have hx : ∀ k : Fin 15, (extui 32 (cmpi .sge
      (broadcastInDim S4x2048x1x15 ![0, 1, 2, 3] bcast_S4x2048x1x1_S4x2048x1x15_0_1_2_3
        (broadcastInDim S4x2048x1x1 ![0, 1, 2] bcast_S4x2048x1_S4x2048x1x1_0_1_2 (numV V0)))
      (broadcastInDim S4x2048x1x15 ![0, 1, 2, 3] bcast_S1x1x1x15_S4x2048x1x15_0_1_2_3
        (broadcastInDim S1x1x1x15 ![3] bcast_S15_S1x1x1x15_3
          (Host.shli (broadcastInDim S15 ![] bcast_S_S15 (constantI S_ 32 1#32))
            (addi (broadcastInDim S15 ![] bcast_S_S15 (constantI S_ 32 1#32)) (iotaInDim S15 32 0)))))) natLt_1_32) (ix4 b r 0 k)
      = (reaches (numV V0 (ix3 b r 0)) k).setWidth 32 := fun k => by
    pointwise [reaches]
  have hlift : ∀ k : Fin 15, hred.lift (ix3 b r 0) k = ix4 b r 0 k := fun k =>
    funext fun d => Fin.ext <| match d with
      | ⟨0, _⟩ => rfl
      | ⟨1, _⟩ => rfl
      | ⟨2, _⟩ => rfl
      | ⟨3, _⟩ => rfl
  refine (Finset.fold_congr (g := fun k : Fin 15 => (reaches (numV V0 (ix3 b r 0)) k).setWidth 32) fun k _ =>
    (congrArg _ (hlift k)).trans (hx k)).trans ?_
  refine (IndicatorCount.fold_addi_setWidth_eq_card (ι := Fin 15) (fun k => reaches (numV V0 (ix3 b r 0)) k) Finset.univ).trans ?_
  rw [hn, Finset.filter_congr fun k _ => reaches_iff D hD k, count_powers e D h₁ h₂]

theorem half_apply (b : Fin 4) (r : Fin 2048) (e : Fin 16) (h : topV V0 (ix3 b r 0) = BitVec.ofNat 32 e.val) :
    halfV V0 (ix3 b r 0) = BitVec.ofNat 32 (e.val / 2) := by
  rw [← half_eq, ← h]
  unfold halfV half
  pointwise [res_main_v74, res_main_call4_v2, res_main_call4_v0]
  rfl

theorem slot_apply (b : Fin 4) (r : Fin 2048) : slotV V0 (ix3 b r 0) = slot (numV V0 (ix3 b r 0)) (halfV V0 (ix3 b r 0)) := by
  unfold slotV slot
  pointwise [res_main_v83]

theorem root_apply (b : Fin 4) (r : Fin 2048) (i : Fin 256) (hi : slotV V0 (ix3 b r 0) = BitVec.ofNat 32 i.val) :
    rootV V0 (ix3 b r 0) = IntOp.shrsi .host (lit0 i) (IntOp.subi 7#32 (halfV V0 (ix3 b r 0))) := by
  have hidx : broadcastInDim S4x2048x1x1 ![0, 1, 2] bcast_S4x2048x1_S4x2048x1x1_0_1_2
      (select (cmpi .slt (slotV V0) (broadcastInDim S4x2048x1 ![] bcast_S_S4x2048x1 (constantI S_ 32 0#32)))
        (addi (slotV V0) (broadcastInDim S4x2048x1 ![] bcast_S_S4x2048x1 (constantI S_ 32 256#32))) (slotV V0)) (ix4 b r 0 0)
      = BitVec.ofNat 32 i.val := by
    refine Eq.trans (b := wrap 256#32 (slotV V0 (ix3 b r 0))) ?_ ?_
    · unfold wrap
      pointwise
    · rw [hi, wrap_eq _ i.isLt]
  have hmin : min (BitVec.ofNat 32 i.val).toInt.toNat (256 - 1) = i.val := by
    rw [nat_word _ (by have := i.isLt; omega)]
    have := i.isLt
    omega
  have hg := Gather.lookup_apply (N := 256) (A := 4) (B := 2048) (C := 1) gather_S256_S4x2048x1x1_S4x2048x1_n_0_n_n_0_3_1_wf
    (fun j : S256.Idx => lit0 (S256.rowMajor j)) _ b r 0 _ hidx i hmin
  have hrow : S256.rowMajor (ix1 i) = i := Fin.ext (Shape.rowMajor_val_one _)
  simp only [hrow] at hg
  rw [← hg]
  unfold rootV
  pointwise [res_main_v93]
  rfl

/-- The corrected root of a number is the integer nearest to its square root. -/
theorem corrected (b : Fin 4) (r : Fin 2048) (D : ℕ) (h1 : 1 ≤ D) (hD : D ≤ 65535)
    (hn : numV V0 (ix3 b r 0) = BitVec.ofNat 32 D) :
    ∃ q : ℕ, 1 ≤ q ∧ (correct (numV V0 (ix3 b r 0)) (rootV V0 (ix3 b r 0))).toInt = q ∧ q * q < D + q ∧ D ≤ q * q + q := by
  have hlt : Nat.log2 D < 16 := (Nat.log2_lt (by omega)).mpr (by omega)
  obtain ⟨e, he⟩ : ∃ e : Fin 16, e.val = Nat.log2 D := ⟨⟨_, hlt⟩, rfl⟩
  have p₁ : 2 ^ e.val ≤ D := by rw [he]; exact Nat.log2_self_le (by omega)
  have p₂ : D < 2 ^ (e.val + 1) := by rw [he]; exact Nat.lt_log2_self
  have ht := top_apply V0 b r D hD hn e p₁ p₂
  obtain ⟨k, hk⟩ : ∃ k : Fin 8, k.val = e.val / 2 := ⟨⟨e.val / 2, by omega⟩, rfl⟩
  have hh : halfV V0 (ix3 b r 0) = BitVec.ofNat 32 k.val := by rw [half_apply V0 b r e ht, hk]
  have q₁ : 4 ^ k.val ≤ D := le_trans (by
    rw [show (4 : ℕ) = 2 ^ 2 by norm_num, ← pow_mul]
    exact Nat.pow_le_pow_right (by norm_num) (by omega)) p₁
  have q₂ : D < 4 ^ (k.val + 1) := lt_of_lt_of_le p₂ (by
    rw [show (4 : ℕ) = 2 ^ 2 by norm_num, ← pow_mul]
    exact Nat.pow_le_pow_right (by norm_num) (by omega))
  obtain ⟨i, hi⟩ : ∃ i : Fin 256, i.val = D * 4 ^ (7 - k.val) / 256 := ⟨⟨_, (slot_range D k q₁ q₂).2⟩, rfl⟩
  have hs : slotV V0 (ix3 b r 0) = BitVec.ofNat 32 i.val := by rw [slot_apply, hn, hh, slot_eq D k q₂, hi]
  rw [root_apply V0 b r i hs, hn, hh]
  exact root D k (by omega) q₁ q₂ i hi

/-- The reference's gain of a row, when its variance is a real number, is the kernel's. -/
theorem gain_apply (b : Fin 4) (r : Fin 2048) (v : ℝ) (hv : varV V0 b r = (v : EReal)) :
    Ideal.div 1 (max (FloatOps.sitofp (F := Ideal) .f32 (correct (numV V0 (ix3 b r 0)) (rootV V0 (ix3 b r 0)))) eps)
      = gain (v : EReal) := by
  obtain ⟨D, h1, hD, hclip, hg⟩ := gain_eq v
  obtain ⟨q, hq, hint, a₁, a₂⟩ := corrected V0 b r D h1 hD (num_apply V0 b r D hD (by rw [hv]; exact hclip))
  obtain ⟨ε, hε, he⟩ := eps_le
  have hq' : (1 : ℝ) ≤ q := by exact_mod_cast hq
  rw [hg q hq a₁ a₂]
  show Ideal.div 1 (max (((correct (numV V0 (ix3 b r 0)) (rootV V0 (ix3 b r 0))).toInt : ℝ) : EReal) eps) = _
  rw [hint, Int.cast_natCast, he, max_eq_left (EReal.coe_le_coe_iff.mpr (le_trans hε hq')),
    Ideal.div_coe (by linarith), one_mul]

/-- The scale and the offset. -/
def arg1 : FVec Ideal S4096 .f32 := V0 (Proc.devRef .tc main_arg1)
def arg2 : FVec Ideal S4096 .f32 := V0 (Proc.devRef .tc main_arg2)

/-- The normalised numbers, at their type. -/
abbrev normV : FVec Ideal S4x2048x4096 .f32 := res_main_v114 V0

/-- The input's step. -/
def sx : EReal := step (bound (at3 (arg0 V0)))

/-- The normalised number at a position, when the scale is one and the offset zero. -/
def Y (p : Pos) : EReal :=
  (at3 (arg0 V0) p - mean (sx V0) (row V0 p.1 p.2.1)) * gain (spread (sx V0) (row V0 p.1 p.2.1))

theorem norm_apply (hg : ∀ l, arg1 V0 (ix1 l) = 1) (hb : ∀ l, arg2 V0 (ix1 l) = 0) (p : Pos) : at3 (normV V0) p = Y V0 p := by
  obtain ⟨b, r, l⟩ := p
  have e : at3 (normV V0) (b, r, l) = (at3 (arg0 V0) (b, r, l) - meanV V0 b r)
      * Ideal.div 1 (max (FloatOps.sitofp (F := Ideal) .f32 (correct (numV V0 (ix3 b r 0)) (rootV V0 (ix3 b r 0)))) eps)
      * arg1 V0 (ix1 l) + arg2 V0 (ix1 l) := by
    unfold at3 normV
    pointwise [res_main_v114]
    rfl
  obtain ⟨n, μ, v, -, hn, hc, hm, hmR, hs, hsR⟩ := stats (bound (at3 (arg0 V0))) (row V0 b r) fun l => le_bound _ (b, r, l)
  have hvar : varV V0 b r = (v : EReal) := by
    rw [spread_apply]
    exact hsR _ fun l => sq_eq V0 b r l (n l) (hn l) (by rw [code_apply]; exact hc l)
  rw [e, hg, hb, mul_one, add_zero, gain_apply V0 b r v hvar, mean_apply, hmR, Y, sx, hm, hs]

/-- The step of the normalised numbers. -/
theorem step_norm (hg : ∀ l, arg1 V0 (ix1 l) = 1) (hb : ∀ l, arg2 V0 (ix1 l) = 0) :
    (res_main_v118 V0 ix0 : EReal) = step (bound (Y V0)) := by
  have h : at3 (normV V0) = Y V0 := funext (norm_apply V0 hg hb)
  rw [← h]
  pointwise [res_main_v118]
  exact congrArg step (absmax (normV V0) _ fun i => Finset.mem_filter.mpr ⟨Finset.mem_univ _, funext fun a => a.elim0⟩)

/-- The reference's result array before its last reshape. -/
def result : FVec Ideal S4x2048x4096 .f32 :=
  mulf (minimumf (broadcastInDim S4x2048x4096 ![] bcast_S_S4x2048x4096 (id (constant S_ .f32 0x42FE0000#32)))
    (maximumf (broadcastInDim S4x2048x4096 ![] bcast_S_S4x2048x4096 (id (constant S_ .f32 0xC2FE0000#32)))
      (addf (res_main_v120 V0) (subf (Host.roundeven (res_main_v120 V0)) (res_main_v120 V0)))))
    (broadcastInDim S4x2048x4096 ![] bcast_S_S4x2048x4096 (res_main_v118 V0))

/-- A result of the reference. -/
theorem result_apply (hg : ∀ l, arg1 V0 (ix1 l) = 1) (hb : ∀ l, arg2 V0 (ix1 l) = 0) (p : Pos) :
    at3 (result V0) p = clipped (Ideal.div (Y V0 p) (step (bound (Y V0)))) * step (bound (Y V0)) := by
  rw [← step_norm V0 hg hb, ← norm_apply V0 hg hb]
  unfold at3 result normV clipped
  pointwise [res_main_v120]
  rfl

end Cert.ReferenceIdeal.Read
end
-- ==== Proof.Align.lean ====
module
public import proofs.«01_k».proof.Proof.Closed
public import proofs.«01_k».proof.Proof.Gain
@[expose] public section
set_option maxRecDepth 16384

/-! The two programs place the same numbers differently: sixteen blocks of 512 rows against four batches of 2048. Row by
row they are the same, so the steps, the normalised numbers and the results agree. -/

noncomputable section
namespace Cert.Align
open Idealize.ShloMosaic Idealize.ShloMosaic.TcCoe
open Cert.Arith

/-- Where the reference finds the kernel's position. -/
def place (p : Cert.KernelIdeal.Run.Pos) : Cert.ReferenceIdeal.Read.Pos :=
  (⟨(512 * p.1.val + p.2.1.val) / 2048, by have := p.1.isLt; have := p.2.1.isLt; omega⟩,
    ⟨(512 * p.1.val + p.2.1.val) % 2048, Nat.mod_lt _ (by norm_num)⟩, p.2.2)

theorem place_surjective : Function.Surjective place := by
  rintro ⟨b, r, l⟩
  have hb := b.isLt
  have hr := r.isLt
  refine ⟨(⟨(2048 * b.val + r.val) / 512, by omega⟩, ⟨(2048 * b.val + r.val) % 512, by omega⟩, l), ?_⟩
  refine Prod.ext (Fin.ext ?_) (Prod.ext (Fin.ext ?_) rfl)
  · show (512 * ((2048 * b.val + r.val) / 512) + (2048 * b.val + r.val) % 512) / 2048 = b.val
    omega
  · show (512 * ((2048 * b.val + r.val) / 512) + (2048 * b.val + r.val) % 512) % 2048 = r.val
    omega

/-- A bound doesn't depend on the placement. -/
theorem bound_place {f : Cert.KernelIdeal.Run.Pos → EReal} {g : Cert.ReferenceIdeal.Read.Pos → EReal}
    (h : ∀ p, f p = g (place p)) : bound f = bound g := by
  unfold bound
  rw [← place_surjective.iSup_comp]
  exact iSup_congr fun p => by rw [h]

/-- Merging the two outer axes, read at an entry. -/
theorem merged {α : Type} (x : (⟨3, ![4, 2048, 4096]⟩ : Shape).Idx → α)
    (h : (⟨3, ![4, 2048, 4096]⟩ : Shape).ShapeCasts ⟨2, ![8192, 4096]⟩) (j : (⟨2, ![8192, 4096]⟩ : Shape).Idx)
    (b : Fin 4) (r : Fin 2048) (hb : b.val = (j 0).val / 2048) (hr : r.val = (j 0).val % 2048) :
    shapeCast ⟨2, ![8192, 4096]⟩ x h j = x (ix3 b r (j 1 : Fin 4096)) := by
  refine Idealize.ShloMosaic.shapeCast_apply x h j _ ?_
  rw [Shape.rowMajor_val_three, Shape.rowMajor_val_two]
  show (b.val * 2048 + r.val) * 4096 + (j 1).val = (j 0).val * 4096 + (j 1).val
  rw [hb, hr]
  omega

variable (A : FVec Ideal Cert.KernelIdeal.S8192x4096 .f32) (V0 : Valuation Cert.ReferenceIdeal.τ Cert.ReferenceIdeal.sig (Elt Ideal))

/-- The kernel's array and the reference's hold the same numbers. -/
def Same : Prop := ∀ p, Cert.KernelIdeal.Run.X A p = Cert.ReferenceIdeal.Read.at3 (Cert.ReferenceIdeal.Read.arg0 V0) (place p)

variable {A V0}

theorem same_step (h : Same A V0) : Cert.KernelIdeal.Run.sx A = Cert.ReferenceIdeal.Read.sx V0 :=
  congrArg step (bound_place h)

theorem same_row (h : Same A V0) (p : Cert.KernelIdeal.Run.Pos) :
    Cert.KernelIdeal.Run.row A p.1 p.2.1 = Cert.ReferenceIdeal.Read.row V0 (place p).1 (place p).2.1 :=
  funext fun l => h (p.1, p.2.1, l)

theorem same_norm (h : Same A V0) (p : Cert.KernelIdeal.Run.Pos) : Cert.KernelIdeal.Run.Y A p = Cert.ReferenceIdeal.Read.Y V0 (place p) := by
  rw [Cert.KernelIdeal.Run.Y, Cert.ReferenceIdeal.Read.Y, h p, same_step h, same_row h]

theorem same_bound (h : Same A V0) : bound (Cert.KernelIdeal.Run.Y A) = bound (Cert.ReferenceIdeal.Read.Y V0) :=
  bound_place (same_norm h)

/-- Rounding with the pass-through term is rounding: the quotients are real. -/
theorem clipped_eq {ι : Type} (f : ι → EReal) (p : ι) : clipped (Ideal.div (f p) (step (bound f)))
    = min (Ideal.ofBits .f32 0x42FE0000#32) (max (Ideal.ofBits .f32 0xC2FE0000#32) (rnd (Ideal.div (f p) (step (bound f))))) := by
  obtain ⟨t, ht, -⟩ := quantised (le_bound f p).1 (le_bound f p).2
  rw [clipped, ht, ste]

/-- The two results at one place. -/
theorem same_result (h : Same A V0) (g b : FVec Ideal Cert.KernelIdeal.S1x4096 .f32) (hg : ∀ l, g (ix2 0 l) = 1) (hb : ∀ l, b (ix2 0 l) = 0)
    (hg' : ∀ l, Cert.ReferenceIdeal.Read.arg1 V0 (ix1 l) = 1) (hb' : ∀ l, Cert.ReferenceIdeal.Read.arg2 V0 (ix1 l) = 0)
    (p : Cert.KernelIdeal.Run.Pos) :
    (Cert.KernelIdeal.Run.outB (F := Ideal) A g b p.1 (ix2 p.2.1 p.2.2) : Ideal .f32)
      = Cert.ReferenceIdeal.Read.at3 (Cert.ReferenceIdeal.Read.result V0) (place p) := by
  rw [Cert.KernelIdeal.Run.outB_apply A g b hg hb, Cert.ReferenceIdeal.Read.result_apply V0 hg' hb', clipped_eq,
    Cert.KernelIdeal.Run.sy, same_bound h, ← same_norm h p]

end Cert.Align
end
-- ==== Proof.Algebraic.lean ====
module
public import proofs.«01_k».proof.Defs
public import proofs.«01_k».proof.Proof.Value
public import proofs.«01_k».proof.Proof.Align
public import proofs.«01_k».proof.Proof.Gen.Pre_identity_affine
public import Idealize.ShloMosaic.Lib.ReduceAll
@[expose] public section
set_option maxRecDepth 16384

/-! The value claim: from the same arguments, with a scale of ones and an offset of zeros, the two programs end with the
same results. -/

noncomputable section
namespace Cert.Proof
open Idealize.ShloMosaic Idealize.ShloMosaic.TcCoe Idealize.SL.Sem
open Cert.Arith Cert.Align

local instance : Cert.KernelIdeal.Facts := Cert.KernelIdeal.Gen.facts
local instance : Cert.ReferenceIdeal.Facts := Cert.ReferenceIdeal.Gen.facts
local instance : Cert.Pre_identity_affine.Facts := Cert.Pre_identity_affine.Gen.facts

/-- Numbers that compare equal are equal. -/
theorem eq_of_compare {x y : EReal} (h : FloatOps.cmpf (F := Ideal) (φ := .f32) .oeq x y = 1#1) : x = y := by
  rw [Ideal.cmpf_def, Ideal.cmp] at h
  by_contra hne
  simp [hne] at h

/-- The precondition, read: every entry of the scale is one and every entry of the offset zero. -/
theorem affine (x : FVec Ideal Cert.Pre_identity_affine.S4x2048x4096 .f32) (g b : FVec Ideal Cert.Pre_identity_affine.S4096 .f32)
    (h : Cert.Pre_identity_affine.fn (F := Ideal) x g b = fun _ => 1#1) :
    (∀ i, g i = (1 : EReal)) ∧ ∀ i, b i = (0 : EReal) := by
  have h0 := congrFun h ix0
  unfold Cert.Pre_identity_affine.fn at h0
  obtain ⟨hg, hb⟩ := IntOp.andi_eq_one.1 h0
  have : Subsingleton Cert.Pre_identity_affine.S_.Idx := ⟨fun i j => funext fun a => a.elim0⟩
  exact ⟨fun i => (eq_of_compare (Host.reduce_andi_all _ _ _ _ _ hg i)).trans (Cert.Arith.c_1.trans EReal.coe_one),
    fun i => (eq_of_compare (Host.reduce_andi_all _ _ _ _ _ hb i)).trans Ideal.ofBits_zero_f32⟩

/-- A row of one axis given a unit axis in front, read at an entry. -/
theorem one_row {α : Type} (x : (⟨1, ![4096]⟩ : Shape).Idx → α) (h : (⟨1, ![4096]⟩ : Shape).ShapeCasts ⟨2, ![1, 4096]⟩) (l : Fin 4096) :
    shapeCast ⟨2, ![1, 4096]⟩ x h (ix2 0 l) = x (ix1 l) := by
  refine Idealize.ShloMosaic.shapeCast_apply x h _ _ ?_
  rw [Shape.rowMajor_val_one, Shape.rowMajor_val_two]
  show l.val = 0 * 4096 + l.val
  omega

/-- The kernel's rows, as the reference's array with its two outer axes merged, hold the same numbers. -/
theorem same {V0 : Valuation Cert.ReferenceIdeal.τ Cert.ReferenceIdeal.sig (Elt Ideal)} {x : FVec Ideal (⟨3, ![4, 2048, 4096]⟩ : Shape) .f32}
    (h0 : Cert.ReferenceIdeal.Read.arg0 V0 = x) :
    Same (shapeCast Cert.KernelIdeal.S8192x4096 x Cert.KernelIdeal.Gen.facts.shapeCasts_S4x2048x4096_S8192x4096) V0 := fun p => by
  rw [h0]
  unfold Cert.KernelIdeal.Run.X Cert.KernelIdeal.Run.xb Cert.ReferenceIdeal.Read.at3
  exact merged x _ _ (place p).1 (place p).2.1 rfl rfl

/-- From equal arguments the two programs compute the same array. -/
theorem results {x : FVec Ideal (⟨3, ![4, 2048, 4096]⟩ : Shape) .f32} {g b : FVec Ideal (⟨1, ![4096]⟩ : Shape) .f32}
    (hg : ∀ i, g i = (1 : EReal)) (hb : ∀ i, b i = (0 : EReal))
    {V0 : Valuation Cert.ReferenceIdeal.τ Cert.ReferenceIdeal.sig (Elt Ideal)}
    (h0 : Cert.ReferenceIdeal.Read.arg0 V0 = x) (h1 : Cert.ReferenceIdeal.Read.arg1 V0 = g) (h2 : Cert.ReferenceIdeal.Read.arg2 V0 = b) :
    shapeCast (⟨2, ![8192, 4096]⟩ : Shape) (Cert.ReferenceIdeal.Read.result V0) Cert.ReferenceIdeal.Gen.facts.shapeCasts_S4x2048x4096_S8192x4096
      = Cert.KernelIdeal.Run.rowsOut (F := Ideal)
          (shapeCast Cert.KernelIdeal.S8192x4096 x Cert.KernelIdeal.Gen.facts.shapeCasts_S4x2048x4096_S8192x4096)
          (shapeCast Cert.KernelIdeal.S1x4096 g Cert.KernelIdeal.Gen.facts.shapeCasts_S4096_S1x4096)
          (shapeCast Cert.KernelIdeal.S1x4096 b Cert.KernelIdeal.Gen.facts.shapeCasts_S4096_S1x4096) := by
  funext i
  have hi : (i 0).val < 8192 := (i 0).isLt
  let p : Cert.KernelIdeal.Run.Pos := (⟨(i 0).val / 512, by omega⟩, ⟨(i 0).val % 512, Nat.mod_lt _ (by norm_num)⟩, i 1)
  have e : 512 * p.1.val + p.2.1.val = (i 0).val := by
    show 512 * ((i 0).val / 512) + (i 0).val % 512 = (i 0).val
    omega
  refine (merged _ _ i (place p).1 (place p).2.1 (congrArg (· / 2048) e) (congrArg (· % 2048) e)).trans ?_
  exact (same_result (same h0) _ _ (fun l => (one_row g _ l).trans (hg _)) (fun l => (one_row b _ l).trans (hb _))
    (fun l => by rw [h1]; exact hg _) (fun l => by rw [h2]; exact hb _) p).symm

/-- The value claim. -/
theorem algebraic : Cert.algebraic_KernelIdeal_ReferenceIdeal_pre_identity_affine := by
  pair_intro
  · run_from Cert.KernelIdeal.Run.run_main m g
  · run_from Cert.ReferenceIdeal.Value.run m' g'
    obtain ⟨hg, hb⟩ := affine _ _ _ (hpre c)
    have ha := hagree c
    refine Eq.trans ?_ (Cert.KernelIdeal.Run.final m c).symm
    rw [Cert.KernelIdeal.Run.arrX_eq, Cert.KernelIdeal.Run.arrG_eq, Cert.KernelIdeal.Run.arrB_eq]
    exact results hg hb (V0 := StableHlo.launchContents m' c) ha.1 ha.2.1 ha.2.2

end Cert.Proof
end
-- ==== Proof.lean ====
/- The certificate: the three frames (two of them also under the precondition), the idealization, and the value claim. -/
module

public import proofs.«01_k».proof.Defs
public import proofs.«01_k».proof.Proof.Launch
public import proofs.«01_k».proof.Proof.SameText
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_identity_affine
public import Idealize.ShloMosaic.Adequacy
public import Idealize.ShloMosaic.Init

@[expose] public section

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts
local instance : Cert.Pre_identity_affine.Facts := Cert.Pre_identity_affine.Gen.facts

/-- The frame of the kernel over the extended reals. -/
theorem frame_ideal : Cert.quiescent_KernelIdeal := fun m g _ => Cert.KernelIdeal.Run.frame m g

theorem frame_ideal_pre : Cert.quiescent_KernelIdeal_pre_identity_affine := fun m g _ => Cert.KernelIdeal.Run.frame m g

/-- The frame of the reference: it declares no semaphore, and no operation writes an argument. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_identity_affine := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_identity_affine.Gen.facts,
    Cert.SameText.frame_kernel, frame_ideal, frame_ideal_pre, frame_reference, frame_reference_pre, trivial, algebraic⟩

end Cert.Proof

end
